-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_k_KernelIdeal [hPre_finite_q_k_KernelIdeal : Cert.Pre_finite_q_k_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_k_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_k_ReferenceIdeal [hPre_finite_q_k_ReferenceIdeal : Cert.Pre_finite_q_k_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_k_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_q_k_KernelIdeal [hKernelIdeal : Cert.KernelIdeal.Facts] [hPre_finite_q_k_KernelIdeal : Cert.Pre_finite_q_k_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_k_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_q_k_ReferenceIdeal [hReferenceIdeal : Cert.ReferenceIdeal.Facts] [hPre_finite_q_k_ReferenceIdeal : Cert.Pre_finite_q_k_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_k_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_finite_q_k_KernelIdeal [hKernelIdeal : Cert.KernelIdeal.Facts] [hReferenceIdeal : Cert.ReferenceIdeal.Facts] [hPre_finite_q_k_KernelIdeal : Cert.Pre_finite_q_k_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_k_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![4096, 128]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 128]⟩ ⟨2, ![4096, 128]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 128]⟩ ⟨2, ![4096, 128]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![4096, 128]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_q_k_KernelIdeal : Cert.Pre_finite_q_k_KernelIdeal.Facts) (hPre_finite_q_k_ReferenceIdeal : Cert.Pre_finite_q_k_ReferenceIdeal.Facts),
    quiescent_Kernel (hKernel := hKernel)
    ∧ quiescent_KernelIdeal (hKernelIdeal := hKernelIdeal)
    ∧ quiescent_KernelIdeal_pre_finite_q_k_KernelIdeal (hKernelIdeal := hKernelIdeal) (hPre_finite_q_k_KernelIdeal := hPre_finite_q_k_KernelIdeal)
    ∧ quiescent_ReferenceIdeal (hReferenceIdeal := hReferenceIdeal)
    ∧ quiescent_ReferenceIdeal_pre_finite_q_k_ReferenceIdeal (hReferenceIdeal := hReferenceIdeal) (hPre_finite_q_k_ReferenceIdeal := hPre_finite_q_k_ReferenceIdeal)
    ∧ preserves_Kernel_KernelIdeal
    ∧ algebraic_KernelIdeal_ReferenceIdeal_pre_finite_q_k_KernelIdeal (hKernelIdeal := hKernelIdeal) (hReferenceIdeal := hReferenceIdeal) (hPre_finite_q_k_KernelIdeal := hPre_finite_q_k_KernelIdeal)
-- ==== Pre_finite_q_k_KernelIdeal.lean ====
abbrev S1024x128 : Shape := ⟨2, ![1024, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel

variable [Facts]

def fn {F : FTy → Type} [FloatOps F] (main_arg0 : FVec F S1024x128 .bf16) (main_arg1 : FVec F S1024x128 .bf16) (main_arg2 : FVec F S1024x128 .bf16) : IVec S_ 1 :=
  let main_v0 : FVec F S1024x128 .bf16 := Host.absf main_arg0
  let main_cst : FVec F S_ .bf16 := constant S_ .bf16 0x7F80#16
  let main_v1 : FVec F S1024x128 .bf16 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .bf16 := Host.absf main_arg1
  let main_cst_0 : FVec F S_ .bf16 := constant S_ .bf16 0x7F80#16
  let main_v5 : FVec F S1024x128 .bf16 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Pre_finite_q_k_ReferenceIdeal.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .bf16) (main_arg1 : FVec F S4096x128 .bf16) (main_arg2 : FVec F S4096x128 .bf16) : IVec S_ 1 :=
  let main_v0 : FVec F S4096x128 .bf16 := Host.absf main_arg0
  let main_cst : FVec F S_ .bf16 := constant S_ .bf16 0x7F80#16
  let main_v1 : FVec F S4096x128 .bf16 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .bf16 := Host.absf main_arg1
  let main_cst_0 : FVec F S_ .bf16 := constant S_ .bf16 0x7F80#16
  let main_v5 : FVec F S4096x128 .bf16 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S1024x128 : Shape := ⟨2, ![1024, 128]⟩
abbrev S4x2x1024x128 : Shape := ⟨4, ![4, 2, 1024, 128]⟩
abbrev S6 : Shape := ⟨1, ![6]⟩
abbrev S8 : Shape := ⟨1, ![8]⟩
abbrev S512x128 : Shape := ⟨2, ![512, 128]⟩
abbrev S1x1x512x128 : Shape := ⟨4, ![1, 1, 512, 128]⟩
abbrev S_ : Shape := ⟨0, ![]⟩
abbrev S1 : Shape := ⟨1, ![1]⟩
abbrev S1x1x1024x128 : Shape := ⟨4, ![1, 1, 1024, 128]⟩
abbrev S1024x1 : Shape := ⟨2, ![1024, 1]⟩
abbrev S1024x512 : Shape := ⟨2, ![1024, 512]⟩
abbrev S1024 : Shape := ⟨1, ![1024]⟩

abbrev nBuf : Space → Nat
  | .hbm => 4
  | .vmem => 5
  | .smem => 0
  | _ => 0

abbrev bufTy : (tb : Table) → Fin (tcTables nBuf tb) → BufTy
  | .hbm, ⟨0, _⟩ => ⟨S1024x128, .bf16⟩
  | .hbm, ⟨1, _⟩ => ⟨S1024x128, .bf16⟩
  | .hbm, ⟨2, _⟩ => ⟨S1024x128, .bf16⟩
  | .hbm, ⟨3, _⟩ => ⟨S1024x128, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .f32⟩
  | .local _ .vmem, ⟨4, _⟩ => ⟨S4x2x1024x128, .bf16⟩
  | _, _ => ⟨S1024x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_21 : BitVec 32 := 1#32
  let v24 : BitVec 32 := Scalar.addi v2 c1_i32_21
  let c4_i32_22 : BitVec 32 := 4#32
  let c0_i32 : BitVec 32 := 0#32
  let v25 : BitVec 1 := Scalar.cmpi .eq c4_i32_22 c0_i32
  let c1_i32_23 : BitVec 32 := 1#32
  let v26 : BitVec 32 := Scalar.select v25 c1_i32_23 c4_i32_22
  let v27 : BitVec 32 := Scalar.remsi v24 v26
  let c0_i32_25 : BitVec 32 := 0#32
  let v29 : BitVec 1 := Scalar.cmpi .slt v27 c0_i32_25
  let c0_i32_26 : BitVec 32 := 0#32
  let v30 : BitVec 1 := Scalar.cmpi .slt v26 c0_i32_26
  let v31 : BitVec 1 := Scalar.xori v29 v30
  let c0_i32_24 : BitVec 32 := 0#32
  let v28 : BitVec 1 := Scalar.cmpi .ne v27 c0_i32_24
  let v32 : BitVec 1 := Scalar.andi v31 v28
  let v33 : BitVec 32 := Scalar.addi v27 v26
  let v34 : BitVec 32 := Scalar.select v32 v33 v27
  let c1_i32_28 : BitVec 32 := 1#32
  let v35 : BitVec 32 := Scalar.muli v34 c1_i32_28
  let v36 : BitVec 32 := Scalar.addi c0_i32_29 v35
  v36.toNat
def k0_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v37 : BitVec 32 := Scalar.addi v2 c2_i32
  let c4_i32_30 : BitVec 32 := 4#32
  let c0_i32_31 : BitVec 32 := 0#32
  let v38 : BitVec 1 := Scalar.cmpi .eq c4_i32_30 c0_i32_31
  let c1_i32_32 : BitVec 32 := 1#32
  let v39 : BitVec 32 := Scalar.select v38 c1_i32_32 c4_i32_30
  let v40 : BitVec 32 := Scalar.remsi v37 v39
  let c0_i32_34 : BitVec 32 := 0#32
  let v42 : BitVec 1 := Scalar.cmpi .slt v40 c0_i32_34
  let c0_i32_35 : BitVec 32 := 0#32
  let v43 : BitVec 1 := Scalar.cmpi .slt v39 c0_i32_35
  let v44 : BitVec 1 := Scalar.xori v42 v43
  let c0_i32_33 : BitVec 32 := 0#32
  let v41 : BitVec 1 := Scalar.cmpi .ne v40 c0_i32_33
  let v45 : BitVec 1 := Scalar.andi v44 v41
  let v46 : BitVec 32 := Scalar.addi v40 v39
  let v47 : BitVec 32 := Scalar.select v45 v46 v40
  let c1_i32_37 : BitVec 32 := 1#32
  let v48 : BitVec 32 := Scalar.muli v47 c1_i32_37
  let v49 : BitVec 32 := Scalar.addi c0_i32_38 v48
  v49.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v50 : BitVec 32 := Scalar.addi v2 c3_i32
  let c4_i32_39 : BitVec 32 := 4#32
  let c0_i32_40 : BitVec 32 := 0#32
  let v51 : BitVec 1 := Scalar.cmpi .eq c4_i32_39 c0_i32_40
  let c1_i32_41 : BitVec 32 := 1#32
  let v52 : BitVec 32 := Scalar.select v51 c1_i32_41 c4_i32_39
  let v53 : BitVec 32 := Scalar.remsi v50 v52
  let c0_i32_43 : BitVec 32 := 0#32
  let v55 : BitVec 1 := Scalar.cmpi .slt v53 c0_i32_43
  let c0_i32_44 : BitVec 32 := 0#32
  let v56 : BitVec 1 := Scalar.cmpi .slt v52 c0_i32_44
  let v57 : BitVec 1 := Scalar.xori v55 v56
  let c0_i32_42 : BitVec 32 := 0#32
  let v54 : BitVec 1 := Scalar.cmpi .ne v53 c0_i32_42
  let v58 : BitVec 1 := Scalar.andi v57 v54
  let v59 : BitVec 32 := Scalar.addi v53 v52
  let v60 : BitVec 32 := Scalar.select v58 v59 v53
  let c1_i32_46 : BitVec 32 := 1#32
  let v61 : BitVec 32 := Scalar.muli v60 c1_i32_46
  let v62 : BitVec 32 := Scalar.addi c0_i32_47 v61
  v62.toNat
def k0_dev4 (d0 : Dev nD) : Nat :=
  let c0_i32_62 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_49 : BitVec 32 := 1#32
  let v63 : BitVec 32 := Scalar.addi v2 c1_i32_49
  let c4_i32_50 : BitVec 32 := 4#32
  let c0_i32_51 : BitVec 32 := 0#32
  let v64 : BitVec 1 := Scalar.cmpi .eq c4_i32_50 c0_i32_51
  let c1_i32_52 : BitVec 32 := 1#32
  let v65 : BitVec 32 := Scalar.select v64 c1_i32_52 c4_i32_50
  let v66 : BitVec 32 := Scalar.remsi v63 v65
  let c0_i32_54 : BitVec 32 := 0#32
  let v68 : BitVec 1 := Scalar.cmpi .slt v66 c0_i32_54
  let c0_i32_55 : BitVec 32 := 0#32
  let v69 : BitVec 1 := Scalar.cmpi .slt v65 c0_i32_55
  let v70 : BitVec 1 := Scalar.xori v68 v69
  let c0_i32_53 : BitVec 32 := 0#32
  let v67 : BitVec 1 := Scalar.cmpi .ne v66 c0_i32_53
  let v71 : BitVec 1 := Scalar.andi v70 v67
  let v72 : BitVec 32 := Scalar.addi v66 v65
  let v73 : BitVec 32 := Scalar.select v71 v72 v66
  let c1_i32_61 : BitVec 32 := 1#32
  let v74 : BitVec 32 := Scalar.muli v73 c1_i32_61
  let v75 : BitVec 32 := Scalar.addi c0_i32_62 v74
  v75.toNat
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_67 : BitVec 32 := 1#32
  let v84 : BitVec 32 := Scalar.addi v2 c1_i32_67
  let c4_i32_68 : BitVec 32 := 4#32
  let c0_i32_69 : BitVec 32 := 0#32
  let v85 : BitVec 1 := Scalar.cmpi .eq c4_i32_68 c0_i32_69
  let c1_i32_70 : BitVec 32 := 1#32
  let v86 : BitVec 32 := Scalar.select v85 c1_i32_70 c4_i32_68
  let v87 : BitVec 32 := Scalar.remsi v84 v86
  let c0_i32_72 : BitVec 32 := 0#32
  let v89 : BitVec 1 := Scalar.cmpi .slt v87 c0_i32_72
  let c0_i32_73 : BitVec 32 := 0#32
  let v90 : BitVec 1 := Scalar.cmpi .slt v86 c0_i32_73
  let v91 : BitVec 1 := Scalar.xori v89 v90
  let c0_i32_71 : BitVec 32 := 0#32
  let v88 : BitVec 1 := Scalar.cmpi .ne v87 c0_i32_71
  let v92 : BitVec 1 := Scalar.andi v91 v88
  let v93 : BitVec 32 := Scalar.addi v87 v86
  let v94 : BitVec 32 := Scalar.select v92 v93 v87
  let c1_i32_79 : BitVec 32 := 1#32
  let v95 : BitVec 32 := Scalar.muli v94 c1_i32_79
  let v96 : BitVec 32 := Scalar.addi c0_i32_80 v95
  v96.toNat
def k0_dev6 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_85 : BitVec 32 := 2#32
  let v105 : BitVec 32 := Scalar.addi v2 c2_i32_85
  let c4_i32_86 : BitVec 32 := 4#32
  let c0_i32_87 : BitVec 32 := 0#32
  let v106 : BitVec 1 := Scalar.cmpi .eq c4_i32_86 c0_i32_87
  let c1_i32_88 : BitVec 32 := 1#32
  let v107 : BitVec 32 := Scalar.select v106 c1_i32_88 c4_i32_86
  let v108 : BitVec 32 := Scalar.remsi v105 v107
  let c0_i32_90 : BitVec 32 := 0#32
  let v110 : BitVec 1 := Scalar.cmpi .slt v108 c0_i32_90
  let c0_i32_91 : BitVec 32 := 0#32
  let v111 : BitVec 1 := Scalar.cmpi .slt v107 c0_i32_91
  let v112 : BitVec 1 := Scalar.xori v110 v111
  let c0_i32_89 : BitVec 32 := 0#32
  let v109 : BitVec 1 := Scalar.cmpi .ne v108 c0_i32_89
  let v113 : BitVec 1 := Scalar.andi v112 v109
  let v114 : BitVec 32 := Scalar.addi v108 v107
  let v115 : BitVec 32 := Scalar.select v113 v114 v108
  let c1_i32_98 : BitVec 32 := 1#32
  let v116 : BitVec 32 := Scalar.muli v115 c1_i32_98
  let v117 : BitVec 32 := Scalar.addi c0_i32_99 v116
  v117.toNat
def k0_dev7 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_104 : BitVec 32 := 2#32
  let v126 : BitVec 32 := Scalar.addi v2 c2_i32_104
  let c4_i32_105 : BitVec 32 := 4#32
  let c0_i32_106 : BitVec 32 := 0#32
  let v127 : BitVec 1 := Scalar.cmpi .eq c4_i32_105 c0_i32_106
  let c1_i32_107 : BitVec 32 := 1#32
  let v128 : BitVec 32 := Scalar.select v127 c1_i32_107 c4_i32_105
  let v129 : BitVec 32 := Scalar.remsi v126 v128
  let c0_i32_109 : BitVec 32 := 0#32
  let v131 : BitVec 1 := Scalar.cmpi .slt v129 c0_i32_109
  let c0_i32_110 : BitVec 32 := 0#32
  let v132 : BitVec 1 := Scalar.cmpi .slt v128 c0_i32_110
  let v133 : BitVec 1 := Scalar.xori v131 v132
  let c0_i32_108 : BitVec 32 := 0#32
  let v130 : BitVec 1 := Scalar.cmpi .ne v129 c0_i32_108
  let v134 : BitVec 1 := Scalar.andi v133 v130
  let v135 : BitVec 32 := Scalar.addi v129 v128
  let v136 : BitVec 32 := Scalar.select v134 v135 v129
  let c1_i32_116 : BitVec 32 := 1#32
  let v137 : BitVec 32 := Scalar.muli v136 c1_i32_116
  let v138 : BitVec 32 := Scalar.addi c0_i32_117 v137
  v138.toNat
def k0_dev8 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_122 : BitVec 32 := 3#32
  let v147 : BitVec 32 := Scalar.addi v2 c3_i32_122
  let c4_i32_123 : BitVec 32 := 4#32
  let c0_i32_124 : BitVec 32 := 0#32
  let v148 : BitVec 1 := Scalar.cmpi .eq c4_i32_123 c0_i32_124
  let c1_i32_125 : BitVec 32 := 1#32
  let v149 : BitVec 32 := Scalar.select v148 c1_i32_125 c4_i32_123
  let v150 : BitVec 32 := Scalar.remsi v147 v149
  let c0_i32_127 : BitVec 32 := 0#32
  let v152 : BitVec 1 := Scalar.cmpi .slt v150 c0_i32_127
  let c0_i32_128 : BitVec 32 := 0#32
  let v153 : BitVec 1 := Scalar.cmpi .slt v149 c0_i32_128
  let v154 : BitVec 1 := Scalar.xori v152 v153
  let c0_i32_126 : BitVec 32 := 0#32
  let v151 : BitVec 1 := Scalar.cmpi .ne v150 c0_i32_126
  let v155 : BitVec 1 := Scalar.andi v154 v151
  let v156 : BitVec 32 := Scalar.addi v150 v149
  let v157 : BitVec 32 := Scalar.select v155 v156 v150
  let c1_i32_135 : BitVec 32 := 1#32
  let v158 : BitVec 32 := Scalar.muli v157 c1_i32_135
  let v159 : BitVec 32 := Scalar.addi c0_i32_136 v158
  v159.toNat
def k0_dev9 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_141 : BitVec 32 := 3#32
  let v168 : BitVec 32 := Scalar.addi v2 c3_i32_141
  let c4_i32_142 : BitVec 32 := 4#32
  let c0_i32_143 : BitVec 32 := 0#32
  let v169 : BitVec 1 := Scalar.cmpi .eq c4_i32_142 c0_i32_143
  let c1_i32_144 : BitVec 32 := 1#32
  let v170 : BitVec 32 := Scalar.select v169 c1_i32_144 c4_i32_142
  let v171 : BitVec 32 := Scalar.remsi v168 v170
  let c0_i32_146 : BitVec 32 := 0#32
  let v173 : BitVec 1 := Scalar.cmpi .slt v171 c0_i32_146
  let c0_i32_147 : BitVec 32 := 0#32
  let v174 : BitVec 1 := Scalar.cmpi .slt v170 c0_i32_147
  let v175 : BitVec 1 := Scalar.xori v173 v174
  let c0_i32_145 : BitVec 32 := 0#32
  let v172 : BitVec 1 := Scalar.cmpi .ne v171 c0_i32_145
  let v176 : BitVec 1 := Scalar.andi v175 v172
  let v177 : BitVec 32 := Scalar.addi v171 v170
  let v178 : BitVec 32 := Scalar.select v176 v177 v171
  let c1_i32_154 : BitVec 32 := 1#32
  let v179 : BitVec 32 := Scalar.muli v178 c1_i32_154
  let v180 : BitVec 32 := Scalar.addi c0_i32_155 v179
  v180.toNat
abbrev stage0_0 : Fin 1 → Memref sig .tc .vmem S1024x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S4096x128 : Shape := ⟨2, ![4096, 128]⟩
abbrev S128x4096 : Shape := ⟨2, ![128, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x128, .bf16⟩
  | .hbm, ⟨2, _⟩ => ⟨S4096x128, .bf16⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S128x4096, .f32⟩
  | .hbm, ⟨7, _⟩ => ⟨S4096x4096, .f32⟩
  | .hbm, ⟨8, _⟩ => ⟨S_, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x4096, .f32⟩
  | .hbm, ⟨22, _⟩ => ⟨S4096x4096, .f32⟩
  | .hbm, ⟨23, _⟩ => ⟨S4096x128, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Windows.lean ====
/-
# `Windows`: the exchange buffer of one device, its eight windows and what each comes to hold

A device's exchange buffer has four slots of two halves. Slot `s` is for the keys and values of the device `s` steps
ahead on the ring: half `h` holds rows `512·h … 512·h + 511` of its keys, then the same rows of its values. Slot 0 the
device fills itself; slots 1, 2, 3 arrive from the other three devices, six windows in all.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.ValueKit
public import Idealize.ShloMosaic.Lib.Pointwise
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! ## The ring of devices -/

/-- The device `s` steps ahead of `c`. -/
def ahead (c : Dev nD) (s : ℕ) : Dev nD := ⟨(c.val + s) % 4, Nat.mod_lt _ (by decide)⟩

theorem ahead_val (c : Dev nD) (s : ℕ) : (ahead c s).val = (c.val + s) % 4 := rfl
theorem ahead_ahead (c : Dev nD) (s t : ℕ) : ahead (ahead c s) t = ahead c (s + t) :=
  Fin.ext (by simp only [ahead_val]; omega)
theorem ahead_zero (c : Dev nD) : ahead c 0 = c := Fin.ext (by have h : c.val < 4 := c.isLt; simp only [ahead_val]; omega)
theorem ahead_four (c : Dev nD) : ahead c 4 = c := Fin.ext (by have h : c.val < 4 := c.isLt; simp only [ahead_val]; omega)

/-! ## Memrefs and windows -/

abbrev qM : Memref sig .tc .vmem S1024x128 .bf16 := Memref.whole cc0_stg0_0
abbrev kM : Memref sig .tc .vmem S1024x128 .bf16 := Memref.whole cc0_stg1_0
abbrev vM : Memref sig .tc .vmem S1024x128 .bf16 := Memref.whole cc0_stg2_0
abbrev oM : Memref sig .tc .vmem S1024x128 .f32 := Memref.whole cc0_stg3_0
/-- The exchange buffer. -/
abbrev xM : Memref sig .tc .vmem S4x2x1024x128 .bf16 := Memref.whole cc0_scratch0

theorem slot_inb : ∀ (s : Fin 4) (h : Fin 2) (a : Fin 4),
    (![s.val, h.val, 0, 0] : Fin 4 → Nat) a + S1x1x1024x128.size a ≤ S4x2x1024x128.size a := by decide

/-- Slot `s`, half `h` of the exchange buffer as a rectangle, … -/
abbrev slotRect (s : Fin 4) (h : Fin 2) : Rect S4x2x1024x128 :=
  Rect.unit (s := S4x2x1024x128) ![s.val, h.val, 0, 0] S1x1x1024x128.size (slot_inb s h)
/-- … as the memref the copies name, … -/
abbrev win (s : Fin 4) (h : Fin 2) : Memref sig .tc .vmem S1024x128 .bf16 :=
  (xM.slice (slotRect s h) (fun _ => rfl)).squeeze S1024x128 squeezes_S1x1x1024x128_S1024x128
/-- … and as a set of elements. -/
abbrev wset (s : Fin 4) (h : Fin 2) : Finset S4x2x1024x128.Idx := (slotRect s h).set

theorem win_set (s : Fin 4) (h : Fin 2) : (win s h).view.set = wset s h :=
  (Memref.set_view_squeeze _ _).trans (View.set_slice_whole _ _)

theorem mem_wset {s : Fin 4} {h : Fin 2} {i : S4x2x1024x128.Idx} : i ∈ wset s h ↔ i 0 = s ∧ i 1 = h := by
  rw [Rect.mem_set_unit]
  have h2 := (i 2).isLt
  have h3 := (i 3).isLt
  constructor
  · intro H
    have e0 := H 0; have e1 := H 1
    simp at e0 e1
    exact ⟨Fin.ext (by omega), Fin.ext (by omega)⟩
  · rintro ⟨rfl, rfl⟩ a
    fin_cases a
    · simp
    · simp
    · exact ⟨Nat.zero_le _, by simpa using h2⟩
    · exact ⟨Nat.zero_le _, by simpa using h3⟩

theorem wset_disjoint {s s' : Fin 4} {h h' : Fin 2} (hne : (s, h) ≠ (s', h')) : Disjoint (wset s h) (wset s' h') :=
  Finset.disjoint_left.mpr fun i hi hi' => hne (by
    rw [mem_wset] at hi hi'
    rw [← hi.1, ← hi.2, ← hi'.1, ← hi'.2])

/-- The eight windows make up the buffer. -/
theorem wset_cover : (Finset.univ : Finset (Fin 4 × Fin 2)).biUnion (fun p => wset p.1 p.2) = Finset.univ := by
  ext i
  simp only [Finset.mem_biUnion, Finset.mem_univ, true_and, iff_true]
  exact ⟨(i 0, i 1), mem_wset.mpr ⟨rfl, rfl⟩⟩

/-- A rectangle of 512 rows inside slot `s`, half `h`. -/
theorem half_subset {s h o : ℕ} (inb : ∀ a, (![s, h, o, 0] : Fin 4 → Nat) a + S1x1x512x128.size a ≤ S4x2x1024x128.size a)
    (s' : Fin 4) (h' : Fin 2) (es : s = s'.val) (eh : h = h'.val) :
    (Rect.unit (s := S4x2x1024x128) ![s, h, o, 0] S1x1x512x128.size inb).set ⊆ wset s' h' := by
  intro i hi
  rw [Rect.mem_set_unit] at hi
  have e0 := hi 0; have e1 := hi 1
  simp at e0 e1
  exact mem_wset.mpr ⟨Fin.ext (by omega), Fin.ext (by omega)⟩

/-! ## Contents -/

/-- Row `r` of the 1024 rows of a half window is row `512·h + r` of the keys for `r < 512`, row `512·h + r − 512` of the
    values from there. -/
def packed (k v : S1024x128.Idx → Elt F .bf16) (h : Fin 2) (r : Fin 1024) (d : Fin 128) : Elt F .bf16 :=
  if hr : r.val < 512 then k (ix2 ⟨h.val * 512 + r.val, by have := h.isLt; omega⟩ d)
  else v (ix2 ⟨h.val * 512 + (r.val - 512), by have := h.isLt; omega⟩ d)

/-- The exchange buffer when everything has arrived: slot `s` holds the packed keys and values `kk (ahead c s)` and
    `vv (ahead c s)` of the device `s` steps ahead. -/
def gathered (kk vv : Dev nD → S1024x128.Idx → Elt F .bf16) (c : Dev nD) : S4x2x1024x128.Idx → Elt F .bf16 :=
  fun i => packed (kk (ahead c (i 0).val)) (vv (ahead c (i 0).val)) (i 1) (i 2) (i 3)

/-- Where the window's index `x` lies in the buffer: the same row and column in every window. -/
theorem win_emb (s : Fin 4) (h : Fin 2) (x : S1024x128.Idx) :
    (win s h).view.emb x = (slotRect s h).emb (Shape.reshapeEquiv (by decide : S1024x128.numel = S1x1x1024x128.numel) x) := rfl

theorem slot_emb (s : Fin 4) (h : Fin 2) (y : S1x1x1024x128.Idx) :
    (((slotRect s h).emb y : S4x2x1024x128.Idx) 0 = s ∧ ((slotRect s h).emb y : S4x2x1024x128.Idx) 1 = h)
      ∧ ((slotRect s h).emb y : S4x2x1024x128.Idx) 2 = y 2 ∧ ((slotRect s h).emb y : S4x2x1024x128.Idx) 3 = y 3 := by
  refine ⟨mem_wset.mp ((Finset.ext_iff.mp (Rect.map_emb_univ (slotRect s h)) _).mp (Finset.mem_map_of_mem _ (Finset.mem_univ y))), Fin.ext ?_, Fin.ext ?_⟩
  · rw [ValueKit.rect_emb_unit_val]; simp
  · rw [ValueKit.rect_emb_unit_val]; simp

/-- A copy of slot 0, half `h` of device `c`, written to slot `t` of the device `s` steps ahead, where `s + t` is once
    around the ring: that slot then holds what it is to hold. -/
theorem landed_eq (kk vv : Dev nD → S1024x128.Idx → Elt F .bf16) (c : Dev nD) (s : ℕ) (t : Fin 4) (h : Fin 2) (hst : s + t.val = 4)
    (fd : S4x2x1024x128.Idx → Elt F .bf16) :
    ∀ j ∈ wset t h, (win t h).view.write (Elt F) fd ((win 0 h).view.read (Elt F) (gathered kk vv c)) Finset.univ j
      = gathered kk vv (ahead c s) j := by
  intro j hj
  rw [← win_set] at hj
  obtain ⟨x, -, rfl⟩ := Finset.mem_map.mp hj
  rw [View.write_emb_of_mem _ _ (Finset.mem_univ x), View.read_apply, cast_cast, cast_eq, win_emb, win_emb]
  obtain ⟨⟨a0, a1⟩, a2, a3⟩ := slot_emb 0 h (Shape.reshapeEquiv (by decide : S1024x128.numel = S1x1x1024x128.numel) x)
  obtain ⟨⟨b0, b1⟩, b2, b3⟩ := slot_emb t h (Shape.reshapeEquiv (by decide : S1024x128.numel = S1x1x1024x128.numel) x)
  unfold gathered
  rw [a0, a1, a2, a3, b0, b1, b2, b3, ahead_ahead, hst, ahead_four, show ahead c ((0 : Fin 4) : ℕ) = c from ahead_zero c]

/-- 512 rows of keys or values, put in the two-unit-axes form the buffer's slices have: the same row and column. -/
theorem cast_rows {α : Type} (w : S512x128.Idx → α) (y : S1x1x512x128.Idx) :
    shapeCast S1x1x512x128 (shapeCast S512x128 w shapeCasts_S512x128_S512x128) shapeCasts_S512x128_S1x1x512x128 y = w (ix2 (y 2) (y 3)) := by
  simp only [pointwise]

/-- What the store of 512 rows writes at row `o + r` of the half: row `p + r` of the source. -/
theorem store_rows (M : Memref sig .tc .vmem S1024x128 .bf16) (hM : M.IsWhole) (w : S1024x128.Idx → Elt F .bf16) (f : S4x2x1024x128.Idx → Elt F .bf16)
    {s h o p : ℕ} (inb : ∀ a, (![s, h, o, 0] : Fin 4 → Nat) a + S1x1x512x128.size a ≤ S4x2x1024x128.size a)
    (inp : ∀ a, (![p, 0] : Fin 2 → Nat) a + S512x128.size a ≤ S1024x128.size a)
    (j : S4x2x1024x128.Idx) (hj : j ∈ (Rect.unit (s := S4x2x1024x128) ![s, h, o, 0] S1x1x512x128.size inb).set) (x : S1024x128.Idx)
    (hx0 : (x 0).val + o = p + (j 2).val) (hx1 : x 1 = j 3) :
    (xM.access (Rect.unit (s := S4x2x1024x128) ![s, h, o, 0] S1x1x512x128.size inb)).write (Elt F) f
      (shapeCast S1x1x512x128 (shapeCast S512x128 (fun y => w ((Rect.unit (s := S1024x128) ![p, 0] S512x128.size inp).emb y)) shapeCasts_S512x128_S512x128)
        shapeCasts_S512x128_S1x1x512x128) Finset.univ j = w x := by
  rw [← Rect.map_emb_univ] at hj
  obtain ⟨y, -, rfl⟩ := Finset.mem_map.mp hj
  show (xM.access _).write (Elt F) f _ Finset.univ ((xM.access (Rect.unit (s := S4x2x1024x128) ![s, h, o, 0] S1x1x512x128.size inb)).emb y) = _
  rw [View.write_emb_of_mem _ _ (Finset.mem_univ y), cast_eq, cast_rows]
  congr 1
  rw [ValueKit.rect_emb_unit_val] at hx0
  funext a
  fin_cases a
  · refine Fin.ext ?_
    show (((Rect.unit (s := S1024x128) ![p, 0] S512x128.size inp).emb (ix2 (y 2) (y 3)) 0 : Fin _) : ℕ) = _
    rw [ValueKit.rect_emb_unit_val]
    simp at hx0 ⊢
    omega
  · refine Fin.ext ?_
    have := congrArg Fin.val hx1
    show (((Rect.unit (s := S1024x128) ![p, 0] S512x128.size inp).emb (ix2 (y 2) (y 3)) 1 : Fin _) : ℕ) = ((x 1 : Fin _) : ℕ)
    rw [ValueKit.rect_emb_unit_val]
    rw [ValueKit.rect_emb_unit_val] at this
    simp at this ⊢
    omega

/-- Half `h` of slot 0 after its keys and its values are stored. -/
theorem stored_eq (kk vv : Dev nD → S1024x128.Idx → Elt F .bf16) (c : Dev nD) (h : Fin 2) (f : S4x2x1024x128.Idx → Elt F .bf16)
    (ink : ∀ a, (![0, h.val, 0, 0] : Fin 4 → Nat) a + S1x1x512x128.size a ≤ S4x2x1024x128.size a)
    (inv : ∀ a, (![0, h.val, 512, 0] : Fin 4 → Nat) a + S1x1x512x128.size a ≤ S4x2x1024x128.size a)
    (inp : ∀ a, (![h.val * 512, 0] : Fin 2 → Nat) a + S512x128.size a ≤ S1024x128.size a) :
    ∀ j ∈ wset 0 h, (xM.access (Rect.unit (s := S4x2x1024x128) ![0, h.val, 512, 0] S1x1x512x128.size inv)).write (Elt F)
        ((xM.access (Rect.unit (s := S4x2x1024x128) ![0, h.val, 0, 0] S1x1x512x128.size ink)).write (Elt F) f
          (k0_pay2 (kM.view.readAt (Elt F) (Rect.unit (s := S1024x128) ![h.val * 512, 0] S512x128.size inp).toLoadRect (kk c))) Finset.univ)
        (k0_pay2 (vM.view.readAt (Elt F) (Rect.unit (s := S1024x128) ![h.val * 512, 0] S512x128.size inp).toLoadRect (vv c))) Finset.univ j
      = gathered kk vv c j := by
  intro j hj
  obtain ⟨j0, j1⟩ := mem_wset.mp hj
  have e0 := congrArg Fin.val j0
  have e1 := congrArg Fin.val j1
  have h2 : (j 2).val < 1024 := (j 2).isLt
  have h3 : (j 3).val < 128 := (j 3).isLt
  unfold gathered
  rw [j0, j1, show ahead c ((0 : Fin 4) : ℕ) = c from ahead_zero c]
  unfold packed
  by_cases hr : (j 2).val < 512
  · rw [dif_pos hr, View.write_of_not_mem]
    · exact store_rows kM (Memref.isWhole_whole _) (kk c) f ink inp j
        (Rect.mem_set_unit.mpr (by
          intro a; fin_cases a
          · simp [j0]
          · simp [j1]
          · exact ⟨Nat.zero_le _, by simpa using hr⟩
          · exact ⟨Nat.zero_le _, by simpa using h3⟩)) _ (by simp) rfl
    · intro hm
      have hm' : j ∈ (Rect.unit (s := S4x2x1024x128) ![0, h.val, 512, 0] S1x1x512x128.size inv).set := by
        rw [← Rect.map_emb_univ]; exact hm
      have := (Rect.mem_set_unit.mp hm' 2).1
      simp at this
      omega
  · rw [dif_neg hr]
    exact store_rows vM (Memref.isWhole_whole _) (vv c) _ inv inp j
      (Rect.mem_set_unit.mpr (by
        intro a; fin_cases a
        · simp [j0]
        · simp [j1]
        · exact ⟨by simp; omega, by simpa using h2⟩
        · exact ⟨Nat.zero_le _, by simpa using h3⟩)) _ (by simp; omega) rfl

end Cert.Exchange

end
-- ==== Proof.Protocol.lean ====
/-
# `Protocol`: who hands what to whom

Every device signals the other three devices' barrier semaphore and waits for three on its own; with each signal it
hands over the two windows of its exchange buffer the other device is going to write. Then it copies its slot 0, half by
half, to the other three devices — six copies —, and waits for the six that arrive.

Numbers used throughout. Copy `i : Fin 6` of a device goes `i/2 + 1` devices ahead and carries half `i % 2`; it counts on
the device's send semaphore `i`. Arrival `r : Fin 6` of a device lands in slot `r/2 + 1`, half `r % 2`, comes from the device
`r/2 + 1` ahead, and counts on the device's receive semaphore `r + 2` (receive semaphores 0 and 1 are never used). Copy `i`
of device `c` is arrival `mir i` of device `nb c i`, and the other way round: an involution, along which tokens, credit
and windows are dealt.

One round of the rounds library: a barrier cell has three duties of one unit, a used send or receive cell one duty of
a window's credit.
-/
module

public import proofs.«01_k».proof.Proof.Windows
public import Idealize.ShloMosaic.Lib.ShareLeaves

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F] [Named F]

/-! ## The resource algebra: the pipeline library's copy and the exchange's, whose duties are `Fin 3` -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Numbering -/

/-- The half copy or arrival `i` carries, … -/
def half (i : Fin 6) : Fin 2 := ⟨i.val % 2, Nat.mod_lt _ (by decide)⟩
/-- … the slot arrival `i` lands in, … -/
def slot (i : Fin 6) : Fin 4 := ⟨i.val / 2 + 1, by have := i.isLt; omega⟩
/-- … the device copy `i` goes to and arrival `i` comes from, … -/
def nb (c : Dev nD) (i : Fin 6) : Dev nD := ahead c (i.val / 2 + 1)
/-- … and the number of a copy on the device it arrives at. -/
def mir (i : Fin 6) : Fin 6 := ⟨(2 - i.val / 2) * 2 + i.val % 2, by omega⟩
/-- The barrier: signal `j` goes `j + 1` devices ahead and is there duty `rev j`, … -/
def bto (c : Dev nD) (j : Fin 3) : Dev nD := ahead c (j.val + 1)
def rev (j : Fin 3) : Fin 3 := ⟨2 - j.val, by omega⟩
/-- … and hands over arrival windows `pr j 0` and `pr j 1`. -/
def pr (j : Fin 3) (h : Fin 2) : Fin 6 := ⟨2 * j.val + h.val, by have := h.isLt; omega⟩

theorem mir_mir : ∀ i, mir (mir i) = i := by decide
theorem nb_mir : ∀ c i, nb (nb c i) (mir i) = c := by decide
theorem half_mir : ∀ i, half (mir i) = half i := by decide
theorem rev_rev : ∀ j, rev (rev j) = j := by decide
theorem bto_rev : ∀ c j, bto (bto c j) (rev j) = c := by decide
theorem pr_rev : ∀ j h, pr (rev j) h = mir (pr j h) := by decide
theorem bto_nb : ∀ c j h, bto c j = nb c (pr j h) := by decide
theorem slot_mir : ∀ i : Fin 6, (i.val / 2 + 1) + (slot (mir i)).val = 4 := by decide

/-- Copies and arrivals, matched. -/
def xfer : Dev nD × Fin 6 ≃ Dev nD × Fin 6 :=
  ⟨fun x => (nb x.1 x.2, mir x.2), fun x => (nb x.1 x.2, mir x.2), fun x => Prod.ext (nb_mir x.1 x.2) (mir_mir x.2),
    fun x => Prod.ext (nb_mir x.1 x.2) (mir_mir x.2)⟩
/-- Signals and barrier duties, matched. -/
def bsig : Dev nD × Fin 3 ≃ Dev nD × Fin 3 :=
  ⟨fun x => (bto x.1 x.2, rev x.2), fun x => (bto x.1 x.2, rev x.2), fun x => Prod.ext (bto_rev x.1 x.2) (rev_rev x.2),
    fun x => Prod.ext (bto_rev x.1 x.2) (rev_rev x.2)⟩

/-! ## Semaphores and cells -/

/-- The runtime's barrier semaphore of collective id 0. -/
abbrev barS : Sem sig := (SemArray.scalar (sig.barrier 0 rfl) : Sems sig S_).sem
/-- Send semaphore `i` and the receive semaphore of arrival `r`. -/
def sendS (i : Fin 6) : DmaSem sig := ⟨4 + i.val, by have := i.isLt; show 4 + i.val < 18; omega⟩
def recvS (r : Fin 6) : DmaSem sig := ⟨12 + r.val, by have := r.isLt; show 12 + r.val < 18; omega⟩
/-- The two receive semaphores nothing uses. -/
def idleS (k : Fin 2) : DmaSem sig := ⟨10 + k.val, by have := k.isLt; show 10 + k.val < 18; omega⟩

abbrev barCell (c : Dev nD) : GSem nD τ sig := ((c : Thread nD τ), .reg barS)
abbrev sendCell (c : Dev nD) (i : Fin 6) : GSem nD τ sig := ((c : Thread nD τ), .dma (sendS i))
abbrev recvCell (c : Dev nD) (r : Fin 6) : GSem nD τ sig := ((c : Thread nD τ), .dma (recvS r))

/-- A device's cells: its barrier, its send cells, its arrival cells. -/
abbrev CIx : Type := Unit ⊕ Fin 6 ⊕ Fin 6
def csem : CIx → SemLoc sig
  | .inl _ => .reg barS
  | .inr (.inl i) => .dma (sendS i)
  | .inr (.inr r) => .dma (recvS r)
abbrev kcell (ck : Dev nD × CIx) : GSem nD τ sig := ((ck.1 : Thread nD τ), csem ck.2)

theorem csem_injective : Function.Injective csem := by decide

theorem kcell_injective : Function.Injective (kcell : Dev nD × CIx → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- A window's credit: what one copy adds to either of its two semaphores. -/
abbrev N : ℕ := (win 0 0).view.dmaCredit
theorem N_pos : 0 < N := View.dmaCredit_pos _ (by decide)
theorem win_credit (s : Fin 4) (h : Fin 2) : (win s h).view.dmaCredit = N := rfl

/-! ## Contents and the resources of windows -/

def qstg (c : Dev nD) : (cc0_stg0_0 : Ref sig .tc).ty.Contents (Elt F) :=
  (win0_0.blk (0 : Fin 1)).view.read (Elt F) ((s₀ m ρ).mem ((c : Thread nD τ).loc main_arg0))
def kstg (c : Dev nD) : (cc0_stg1_0 : Ref sig .tc).ty.Contents (Elt F) :=
  (win0_1.blk (0 : Fin 1)).view.read (Elt F) ((s₀ m ρ).mem ((c : Thread nD τ).loc main_arg1))
def vstg (c : Dev nD) : (cc0_stg2_0 : Ref sig .tc).ty.Contents (Elt F) :=
  (win0_2.blk (0 : Fin 1)).view.read (Elt F) ((s₀ m ρ).mem ((c : Thread nD τ).loc main_arg2))

/-- Device `c`'s exchange buffer when everything has arrived. -/
def commAt (c : Dev nD) : S4x2x1024x128.Idx → Elt F .bf16 := gathered (kstg m ρ) (vstg m ρ) c

/-- Slot `s`, half `h` of device `c`'s exchange buffer, held at share `q` with contents `f`. -/
def wPts (c : Dev nD) (s : Fin 4) (h : Fin 2) (q : PosShare TreeShare) (f : S4x2x1024x128.Idx → Elt F .bf16) : sProp 𝕄 :=
  ((c : Thread nD τ).loc cc0_scratch0) ↦[wset s h]{q} f

instance wPts_storable (c : Dev nD) (s h q) (f) : BI.Storable (upEmb : UEmb _ 𝕄) (wPts (F := F) c s h q f) := by
  unfold wPts; infer_instance

theorem wPts_congr (c : Dev nD) (s h q) {f g : S4x2x1024x128.Idx → Elt F .bf16} (e : ∀ j ∈ wset s h, f j = g j) :
    (wPts c s h q f : sProp 𝕄) = wPts c s h q g := pointsTo_congr e

/-- The share of slot 0 a copy travels with: each half is read by three copies at once and by the device's own loads. -/
def copyShare (i : Fin 6) : PosShare TreeShare := leaf 2 fullShare ⟨i.val / 2, by have := i.isLt; omega⟩
/-- The share the device keeps for its loads. -/
def loadShare : PosShare TreeShare := leaf 2 fullShare 3

/-- The window copy `i` of device `c` is going to write, at unknown contents. -/
def landing (c : Dev nD) (i : Fin 6) : sProp 𝕄 := iprop(∃ f, wPts (nb c i) (slot (mir i)) (half i) fullShare f)

/-- What duty `d` of `c`'s barrier hands `c`: the two windows it writes on the device `d + 1` ahead. -/
def barPay (c : Dev nD) (d : Fin 3) : sProp 𝕄 := iprop(landing c (pr d 0) ∗ landing c (pr d 1))
/-- What arrival `r` hands `c`: its window, holding what was sent. -/
def recvPay (c : Dev nD) (r : Fin 6) : sProp 𝕄 := wPts c (slot r) (half r) fullShare (commAt m ρ c)
/-- What the end of copy `i` hands `c`: its share of the source back. -/
def sendPay (c : Dev nD) (i : Fin 6) : sProp 𝕄 := wPts c 0 (half i) (copyShare i) (commAt m ρ c)

/-! ## The schedule -/

/-- What a transfer semaphore's duty hands over, by its number. -/
def dmaPay (c : Dev nD) (q : ℕ) : sProp 𝕄 :=
  if h : 4 ≤ q ∧ q < 10 then sendPay m ρ c ⟨q - 4, by omega⟩
  else if h : 12 ≤ q ∧ q < 18 then recvPay m ρ c ⟨q - 12, by omega⟩
  else iprop(emp)

def exRd : Rounds.Schedule (GSem nD τ sig) (Fin 3) 𝕄 where
  duties g r := if r = 0 then (match g.2 with | .reg _ => Finset.univ | .dma _ => {0}) else ∅
  unitless _ := False
  amount g _ _ := match g.2 with | .reg _ => 1 | .dma _ => N
  payload g _ d := match g.2 with | .reg _ => barPay g.1.1 d | .dma q => dmaPay m ρ g.1.1 q.val
  amount_pos g _ _ _ := by
    rcases g with ⟨t, _ | _⟩
    · exact Nat.one_pos
    · exact N_pos

instance exRd_payload_storable (g : GSem nD τ sig) (r : ℕ) (d : Fin 3) :
    BI.Storable (upEmb : UEmb _ 𝕄) ((exRd (F := F) m ρ).payload g r d) := by
  rcases g with ⟨t, _ | q⟩
  · show BI.Storable upEmb (barPay t.1 d)
    unfold barPay landing; infer_instance
  · show BI.Storable upEmb (dmaPay m ρ t.1 q.val)
    unfold dmaPay sendPay recvPay
    (repeat' split) <;> infer_instance

section Tables
variable (c : Dev nD)

theorem duties_bar : (exRd (F := F) m ρ).duties (barCell c) 0 = Finset.univ := rfl
theorem duties_send (i : Fin 6) : (exRd (F := F) m ρ).duties (sendCell c i) 0 = {0} := rfl
theorem duties_recv (r : Fin 6) : (exRd (F := F) m ρ).duties (recvCell c r) 0 = {0} := rfl
theorem duties_later (g : GSem nD τ sig) : ∀ r, 1 ≤ r → (exRd (F := F) m ρ).duties g r = ∅ :=
  fun r hr => if_neg (by omega)

theorem expect_bar : (exRd (F := F) m ρ).expect (barCell c) 0 = 3 := by
  unfold Schedule.expect Schedule.amountOf
  rw [duties_bar]; rfl
theorem expect_send (i : Fin 6) : (exRd (F := F) m ρ).expect (sendCell c i) 0 = N := by
  unfold Schedule.expect Schedule.amountOf; rw [duties_send, Finset.sum_singleton]; rfl
theorem expect_recv (r : Fin 6) : (exRd (F := F) m ρ).expect (recvCell c r) 0 = N := by
  unfold Schedule.expect Schedule.amountOf; rw [duties_recv, Finset.sum_singleton]; rfl

theorem payload_bar (d : Fin 3) : (exRd (F := F) m ρ).payload (barCell c) 0 d = barPay c d := rfl
theorem payload_send (i d) : (exRd (F := F) m ρ).payload (sendCell c i) 0 d = sendPay m ρ c i := by
  have hi := i.isLt
  show dmaPay m ρ c (4 + i.val) = _
  unfold dmaPay
  rw [dif_pos (by omega)]
  exact congrArg _ (Fin.ext (by simp))
theorem payload_recv (r d) : (exRd (F := F) m ρ).payload (recvCell c r) 0 d = recvPay m ρ c r := by
  have hr := r.isLt
  show dmaPay m ρ c (12 + r.val) = _
  unfold dmaPay
  rw [dif_neg (by omega), dif_pos (by omega)]
  exact congrArg _ (Fin.ext (by simp))

theorem bigSep_fin3 (Φ : Fin 3 → sProp 𝕄) : bigSep Finset.univ Φ = iprop(Φ 0 ∗ Φ 1 ∗ Φ 2) :=
  bigSep_univ_eq_bigSepL [0, 1, 2] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A barrier's round hands over all six windows the device writes. -/
theorem rest_bar : bigSep ((exRd (F := F) m ρ).duties (barCell c) 0 \ ∅) (fun d => (exRd (F := F) m ρ).payload (barCell c) 0 d)
    = iprop((landing c 0 ∗ landing c 1) ∗ (landing c 2 ∗ landing c 3) ∗ (landing c 4 ∗ landing c 5)) := by
  rw [Finset.sdiff_empty, duties_bar, bigSep_fin3]
  rfl
theorem rest_send (i : Fin 6) :
    bigSep ((exRd (F := F) m ρ).duties (sendCell c i) 0 \ ∅) (fun d => (exRd (F := F) m ρ).payload (sendCell c i) 0 d) = sendPay m ρ c i := by
  rw [Finset.sdiff_empty, duties_send, bigSep_singleton, payload_send]
theorem rest_recv (r : Fin 6) :
    bigSep ((exRd (F := F) m ρ).duties (recvCell c r) 0 \ ∅) (fun d => (exRd (F := F) m ρ).payload (recvCell c r) 0 d) = recvPay m ρ c r := by
  rw [Finset.sdiff_empty, duties_recv, bigSep_singleton, payload_recv]

end Tables

/-! ## What each device owes at launch; the levels -/

/-- Of a sum over `Fin n` the terms from number `k` on. -/
def from_ {M : Type} [AddCommMonoid M] {n : ℕ} (f : Fin n → M) (k : ℕ) : M := ∑ i with k ≤ i.val, f i

theorem from_zero {M : Type} [AddCommMonoid M] {n : ℕ} (f : Fin n → M) : from_ f 0 = ∑ i, f i := by
  unfold from_; rw [Finset.filter_true_of_mem fun i _ => Nat.zero_le _]
theorem from_end {M : Type} [AddCommMonoid M] {n : ℕ} (f : Fin n → M) : from_ f n = 0 := by
  unfold from_; rw [Finset.filter_false_of_mem fun i _ => by have := i.isLt; omega, Finset.sum_empty]
theorem from_peel {M : Type} [AddCommMonoid M] {n : ℕ} (f : Fin n → M) (i : Fin n) : from_ f i.val = from_ f (i.val + 1) + f i := by
  unfold from_
  rw [show (Finset.univ.filter fun k : Fin n => i.val ≤ k.val) = insert i (Finset.univ.filter fun k : Fin n => i.val + 1 ≤ k.val) from by
    ext k; simp only [Finset.mem_filter, Finset.mem_univ, true_and, Finset.mem_insert, Fin.ext_iff]; omega,
    Finset.sum_insert (by simp), add_comm]

/-- What copy `i` will have added where it arrives, and what signal `j` will have. -/
def owedR (c : Dev nD) (i : Fin 6) : CellTallies nD τ sig Unit := tallyAt (recvCell (nb c i) (mir i)) () N
def owedB (c : Dev nD) (j : Fin 3) : CellTallies nD τ sig Unit := tallyAt (barCell (bto c j)) () 1
def O₀ (c : Dev nD) : CellTallies nD τ sig Unit := from_ (owedR c) 0 + from_ (owedB c) 0

def L (g : GSem nD τ sig) : Finset Unit := if g.1.2 = .tc then {()} else ∅
/-- Barrier cells at 1, receive cells at 2, everything else at 0. -/
def lv (g : GSem nD τ sig) (_ : Unit) : ℕ := match g.2 with | .reg _ => 1 | .dma q => if 12 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (r : Fin 6) : lv (recvCell c r) () = 2 := if_pos (Nat.le_add_right 12 r.val)

theorem apply_sum {n : ℕ} (f : Fin n → CellTallies nD τ sig Unit) (g : GSem nD τ sig) (u : Unit) :
    (∑ i, f i) g u = ∑ i, f i g u := by
  rw [Finset.sum_apply, Finsupp.finset_sum_apply]

theorem owedR_apply (d : Dev nD) (i : Fin 6) (g : GSem nD τ sig) :
    owedR d i g () = if g = recvCell (nb d i) (mir i) then N else 0 := by
  unfold owedR; rw [tallyAt_apply]; simp
theorem owedB_apply (d : Dev nD) (j : Fin 3) (g : GSem nD τ sig) :
    owedB d j g () = if g = barCell (bto d j) then 1 else 0 := by
  unfold owedB; rw [tallyAt_apply]; simp

theorem owedR_pos {c : Dev nD} {g : GSem nD τ sig} {u : Unit} (h : 0 < from_ (owedR c) 0 g u) : ∃ i, g = recvCell (nb c i) (mir i) := by
  rw [from_zero, apply_sum] at h
  obtain ⟨i, -, hi⟩ := Finset.exists_ne_zero_of_sum_ne_zero (Nat.pos_iff_ne_zero.mp h)
  rw [owedR_apply] at hi
  exact ⟨i, by by_contra hn; exact hi (if_neg hn)⟩

theorem O₀_pos {c : Dev nD} {g : GSem nD τ sig} {u : Unit} (h : 0 < O₀ c g u) :
    (∃ i, g = recvCell (nb c i) (mir i)) ∨ ∃ j, g = barCell (bto c j) := by
  unfold O₀ at h
  rw [Pi.add_apply, Finsupp.add_apply] at h
  rcases Nat.add_pos_iff_pos_or_pos.mp h with h | h
  · exact Or.inl (owedR_pos h)
  · right
    rw [from_zero, apply_sum] at h
    obtain ⟨j, -, hj⟩ := Finset.exists_ne_zero_of_sum_ne_zero (Nat.pos_iff_ne_zero.mp h)
    rw [owedB_apply] at hj
    exact ⟨j, by by_contra hn; exact hj (if_neg hn)⟩

/-- The staging waits come below everything owed. -/
theorem mayWait_stage (c : Dev nD) (q : DmaSem sig) (hq : q.val < 12) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨j, rfl⟩ <;> exact Finset.mem_singleton_self _)
      (fun p hp => by rw [Finset.mem_singleton.mp hp]; exact le_of_eq (if_neg (by omega)))
      (fun g u hg => by
        rcases O₀_pos hg with ⟨i, rfl⟩ | ⟨j, rfl⟩
        · rw [show u = () from rfl, lv_recv]; decide
        · exact Nat.one_pos)
  · rw [MayWait_zero]; iintro -; iempintro

/-- At its barrier wait a device owes arrivals only, which lie above its barrier. -/
theorem mayWait_bar (c : Dev nD) : (levAts L lv : sProp 𝕄) ⊢ MayWait (c : Thread nD τ) (.reg barS) () (from_ (owedR c) 0) :=
  MayOwe.of_cut (L := L) (lev := lv) 1 (fun p hp => by rw [Finset.mem_singleton.mp hp, L_tc]; exact Finset.mem_singleton_self _)
    (fun g u hg => by obtain ⟨i, rfl⟩ := owedR_pos hg; exact Finset.mem_singleton_self _)
    (fun p hp => by rw [Finset.mem_singleton.mp hp]; exact le_refl 1)
    (fun g u hg => by obtain ⟨i, rfl⟩ := owedR_pos hg; rw [show u = () from rfl, lv_recv]; decide)

/-! ## What each device starts from -/

/-- Every cell's invariant, under the names `K` the launch allocated them at, and that every cell has reached round 0. -/
def records (K : Dev nD × CIx → ℕ) : sProp 𝕄 :=
  iprop((bigSep Finset.univ fun ck : Dev nD × CIx => cellInv ER (exRd m ρ) (K ck) (kcell ck))
    ∗ bigSep Finset.univ fun ck : Dev nD × CIx => reached ER (kcell ck) 0)

instance records_persistent (K : Dev nD × CIx → ℕ) : BI.Persistent (records m ρ K) := by unfold records; infer_instance

theorem inv_at (K : Dev nD × CIx → ℕ) (ck : Dev nD × CIx) : records m ρ K ⊢ cellInv ER (exRd m ρ) (K ck) (kcell ck) :=
  sep_elim_left.trans (bigSep_elim (Finset.mem_univ ck))
theorem reached_at (K : Dev nD × CIx → ℕ) (ck : Dev nD × CIx) : records m ρ K ⊢ reached ER (kcell ck) 0 :=
  sep_elim_right.trans (bigSep_elim (Finset.mem_univ ck))

/-- A device's positions at round 0 of its cells, and the tokens of the duties it pays: three signals, six arrivals
    elsewhere, its own six sends. -/
def linear (c : Dev nD) : sProp 𝕄 :=
  iprop((atPos ER (barCell c) 0 ∅ 0 ∗ (bigSep Finset.univ fun i : Fin 6 => atPos ER (sendCell c i) 0 ∅ 0)
      ∗ (bigSep Finset.univ fun r : Fin 6 => atPos ER (recvCell c r) 0 ∅ 0))
    ∗ (bigSep Finset.univ fun j : Fin 3 => dutyTok ER (barCell (bto c j)) 0 (rev j))
    ∗ (bigSep Finset.univ fun i : Fin 6 => dutyTok ER (recvCell (nb c i) (mir i)) 0 0)
    ∗ (bigSep Finset.univ fun i : Fin 6 => dutyTok ER (sendCell c i) 0 0))

/-- The two unused receive semaphores, at zero. -/
def idle (c : Dev nD) : sProp 𝕄 :=
  iprop(semVal ((c : Thread nD τ), .dma (idleS 0)) 0 ∗ semVal ((c : Thread nD τ), .dma (idleS 1)) 0)

/-- The credit device `c` waits with. -/
def creds (c : Dev nD) : sProp 𝕄 :=
  iprop(cred (tallyAt (barCell c) () 3) ∗ bigSep Finset.univ fun r : Fin 6 => cred (tallyAt (recvCell c r) () N))

def start (c : Dev nD) : sProp 𝕄 :=
  iprop((∃ K, records m ρ K ∗ linear c) ∗ idle c ∗ creds c ∗ levAts L lv)

/-- Before the body: that and the exchange buffer; -/
def Φ₀ (c : Dev nD) : sProp 𝕄 := iprop(start m ρ c ∗ ∃ f, ((c : Thread nD τ).loc cc0_scratch0) ↦{fullShare} f)
/-- after it: the exchange buffer, and every semaphore closed at zero. -/
def Φ₁ (c : Dev nD) : sProp 𝕄 :=
  iprop((∃ f, ((c : Thread nD τ).loc cc0_scratch0) ↦{fullShare} f) ∗ idle c ∗ semVal (barCell c) 0
    ∗ (bigSep Finset.univ fun i : Fin 6 => semVal (sendCell c i) 0) ∗ (bigSep Finset.univ fun r : Fin 6 => semVal (recvCell c r) 0))

end Cert.Exchange

end
-- ==== Proof.Body.lean ====
/-
# `Body`: one device's run of the kernel

First the effects one at a time, each as a rule of this exchange — a signal, the barrier wait, a copy, the wait for an arrival
or for a copy's end, loads and stores in a window —, then the body executed by these rules in program order.

What the body leaves in the output block is `outAt`: the online softmax of its queries over the eight half windows, in the order
they are read.
-/
module

public import proofs.«01_k».proof.Proof.Protocol

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.Pipeline (Dat Cfg Window BodyObligation)

variable {F : FTy → Type} [FloatOps F] [Named F]
local notation "𝕄" => MT nD τ sig Unit (Elt F) ℕ UU ℕ
variable (m : (ℓ : Loc nD τ sig) → Buf (Elt F) ℓ) (ρ : Dev nD → PrngReg)

abbrev 𝒱₀ : Variants := Variants.none

/-! ## What the body computes -/

/-- Running row maximum, row sum and weighted rows. -/
structure Acc (F : FTy → Type) where
  top : Vec F S1024x1 .f32
  sum : Vec F S1024x1 .f32
  out : Vec F S1024x128 .f32

/-- One half window's 512 keys and values taken in. -/
def absorb (q : Vec F S1024x128 .bf16) (st : Acc F) (kb vb : Vec F S1x1x512x128 .bf16) : Acc F :=
  ⟨k0_pay48 q st.top (k0_pay46 kb), k0_pay51 q st.top st.sum (k0_pay46 kb), k0_pay52 q st.top st.out (k0_pay46 kb) vb⟩

/-- Before any: a very small maximum, nothing summed. -/
def accZero : Acc F := ⟨k0_pay7, broadcast S1024x1 (Scalar.ofBits .f32 0x00000000#32), broadcast S1024x128 (Scalar.ofBits .f32 0x00000000#32)⟩

theorem half_inb : ∀ (s : Fin 4) (h o : Fin 2) (a : Fin 4),
    (![s.val, h.val, o.val * 512, 0] : Fin 4 → Nat) a + S1x1x512x128.size a ≤ S4x2x1024x128.size a := by decide
/-- The keys (`o = 0`) or values (`o = 1`) of slot `s`, half `h`. -/
abbrev halfRect (s : Fin 4) (h o : Fin 2) : Rect S4x2x1024x128 :=
  Rect.unit (s := S4x2x1024x128) ![s.val, h.val, o.val * 512, 0] S1x1x512x128.size (half_inb s h o)

/-- What a load of them reads once they have arrived. -/
def chunk (c : Dev nD) (s : Fin 4) (h o : Fin 2) : Vec F S1x1x512x128 .bf16 :=
  xM.view.readAt (Elt F) (halfRect s h o).toLoadRect (commAt m ρ c)

/-- The order half windows are taken in. -/
def order : List (Fin 4 × Fin 2) := [(0, 0), (0, 1), (3, 0), (1, 0), (3, 1), (1, 1), (2, 0), (2, 1)]

/-- The state after them all, and the output block. -/
def accAt (c : Dev nD) : Acc F :=
  order.foldl (fun st p => absorb (k0_pay6 (qstg m ρ c)) st (chunk m ρ c p.1 p.2 0) (chunk m ρ c p.1 p.2 1)) accZero
def outAt (c : Dev nD) : (cc0_stg3_0 : Ref sig .tc).ty.Contents (Elt F) := k0_pay1 (accAt m ρ c).sum (accAt m ρ c).out

/-! ## One effect at a time -/

section Effects

variable (K : Dev nD × CIx → ℕ)

/-- The weakest precondition of device `c`'s programs. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- What device `c` owes, whichever waits it has passed. -/
abbrev due (c : Dev nD) (O : CellTallies nD τ sig Unit) : sProp 𝕄 := iprop(∃ W, owes (c : Thread nD τ) O W)

/-- Signal `j`, with the two windows it hands over. -/
theorem wp_sig (c : Dev nD) (j : Fin 3) (a b : ℕ) (ha : a = j.val) (hb : b = a + 1) (n : Dev nD) (hn : n = bto c j) {z : ℤ} (hz : z = 1)
    {α : Type} {Q : α → sProp 𝕄} {k : PUnit → Prog (TpuEff nD τ sig (Elt F) Λ₀ .tc) α} :
    records m ρ K ⊢ iprop(due c (from_ (owedR c) 0 + from_ (owedB c) a) -∗ dutyTok ER (barCell (bto c j)) 0 (rev j)
      -∗ (∃ f, wPts c (slot (pr j 0)) (half (pr j 0)) fullShare f) -∗ (∃ f, wPts c (slot (pr j 1)) (half (pr j 1)) fullShare f)
      -∗ (due c (from_ (owedR c) 0 + from_ (owedB c) b) -∗ run c (k ⟨⟩) Q)
      -∗ run c (.op (.semSignal (Dev.tc n) barS z) k) Q) := by
  subst ha hb hn hz
  have land : ∀ h : Fin 2, (iprop(∃ f, wPts c (slot (pr j h)) (half (pr j h)) fullShare f) : sProp 𝕄) = landing (bto c j) (pr (rev j) h) := fun h => by
    unfold landing
    rw [pr_rev, bto_nb c j h, nb_mir, mir_mir, half_mir]
  iintro #Hrec ⟨%W, HO⟩ Ht H0 H1 Hk
  iapply (Rounds.wp_signal 𝒱₀ ER (exRd m ρ) (c : Thread nD τ) none (dst := (bto c j : Thread nD τ)) (κ := K (bto c j, .inl ()))
      (r := 0) (d := rev j) (k' := 1) (by rw [duties_bar]; exact Finset.mem_univ _) rfl ()
      (O₀ := from_ (owedR c) 0 + from_ (owedB c) j.val) (from_ (owedR c) 0 + from_ (owedB c) (j.val + 1))
      (by rw [from_peel, ← add_assoc]; rfl)) $$ [HO Ht H0 H1]
  · isplitr; · iapply (inv_at m ρ K (bto c j, .inl ())); iexact Hrec
    isplitl [HO]; · iexact HO
    isplitl [Ht]; · iexact Ht
    isplitl [H0 H1]
    · rw [payload_bar]; unfold barPay; rw [← land 0, ← land 1]
      isplitl [H0]; · iexact H0
      iexact H1
    iapply (reached_at m ρ K (bto c j, .inl ())); iexact Hrec
  iintro HO
  iapply Hk
  iexists W; iexact HO

/-- A wait for all of a cell's one round: what the round hands over, and the cell's counter at zero for good. -/
theorem wp_take (c : Dev nD) (x : CIx) {w : TpuEff nD τ sig (Elt F) Λ₀ .tc PUnit} {n : ℕ} {P : sProp 𝕄} (O : CellTallies nD τ sig Unit)
    (hw : ∀ K : PUnit → sProp 𝕄, wpE (defs₀ (F := F)) 𝒱₀ (c : Thread nD τ) none Set.univ w K = waitSpec (c : Thread nD τ) Set.univ (csem x) n K)
    (hn : (exRd m ρ).expect (kcell (c, x)) 0 = n)
    (hP : bigSep ((exRd (F := F) m ρ).duties (kcell (c, x)) 0 \ ∅) (fun d => (exRd (F := F) m ρ).payload (kcell (c, x)) 0 d) = P)
    {α : Type} {Q : α → sProp 𝕄} {k : PUnit → Prog (TpuEff nD τ sig (Elt F) Λ₀ .tc) α} :
    records m ρ K ⊢ iprop(MayWait (c : Thread nD τ) (csem x) () O -∗ due c O -∗ cred (tallyAt (kcell (c, x)) () n) -∗ atPos ER (kcell (c, x)) 0 ∅ 0
      -∗ (due c O -∗ semVal (kcell (c, x)) 0 -∗ P -∗ run c (k ⟨⟩) Q) -∗ run c (.op w k) Q) := by
  subst hP
  iintro #Hrec Hm ⟨%W, HO⟩ Hc Ha Hk
  iapply (Rounds.wp_wait_rest_token 𝒱₀ ER (exRd m ρ) (c : Thread nD τ) none (κ := K (c, x)) hw (Set.mem_univ _) () (O := O) (W := W) (R := 0) (m := 0)
      (T := ∅) (by rw [hn, Nat.zero_add])) $$ [Hm HO Hc Ha]
  · isplitr; · iapply (inv_at m ρ K (c, x)); iexact Hrec
    isplitl [Hc]; · iexact Hc
    isplitl [HO]; · iexact HO
    isplitl [Hm]; · iexact Hm
    iexact Ha
  iintro ⟨HO, Ha, -, HP⟩
  imod (Rounds.cell_close ER (exRd m ρ) (Set.mem_univ (K (c, x))) (fun h => h) (R := 0 + 1) (duties_later m ρ (kcell (c, x)))) $$ [Ha] with Hz
  · isplitr; · iapply (inv_at m ρ K (c, x)); iexact Hrec
    iexact Ha
  iapply Hk $$ [HO] Hz HP
  iexists _; iexact HO

/-- The barrier wait: all six windows this device writes. -/
theorem wp_bar (c : Dev nD) {z : ℤ} (hz : z = ((3 : ℕ) : ℤ))
    {α : Type} {Q : α → sProp 𝕄} {k : PUnit → Prog (TpuEff nD τ sig (Elt F) Λ₀ .tc) α} :
    records m ρ K ⊢ iprop(levAts L lv -∗ due c (from_ (owedR c) 0) -∗ cred (tallyAt (barCell c) () 3) -∗ atPos ER (barCell c) 0 ∅ 0
      -∗ (due c (from_ (owedR c) 0) -∗ semVal (barCell c) 0
        -∗ ((landing c 0 ∗ landing c 1) ∗ (landing c 2 ∗ landing c 3) ∗ (landing c 4 ∗ landing c 5)) -∗ run c (k ⟨⟩) Q)
      -∗ run c (.op (.semWait barS z) k) Q) := by
  subst hz
  iintro #Hrec Hl
  have hm : (levAts L lv : sProp 𝕄) ⊢ MayWait (c : Thread nD τ) (csem (.inl ())) () (from_ (owedR c) 0) := mayWait_bar c
  ihave Hm := hm $$ Hl
  iapply (wp_take m ρ K c (.inl ()) (from_ (owedR c) 0) (wpE_semWait_eq 𝒱₀ (c : Thread nD τ) none Set.univ) (expect_bar m ρ c) (rest_bar m ρ c)) $$ Hrec Hm

/-- The wait for arrival `r`. -/
theorem wp_recv (c : Dev nD) (r : Fin 6) (s : Fin 4) (h : Fin 2) (hs : s = slot r) (hh : h = half r) {q : DmaSem sig} (hq : q = recvS r) {src : Memref sig .tc .vmem S1024x128 .bf16}
    {hsrc : src.view.WordExact} {hdst : (win s h).view.WordExact}
    {α : Type} {Q : α → sProp 𝕄} {k : PUnit → Prog (TpuEff nD τ sig (Elt F) Λ₀ .tc) α} :
    records m ρ K ⊢ iprop(due c 0 -∗ cred (tallyAt (recvCell c r) () N) -∗ atPos ER (recvCell c r) 0 ∅ 0
      -∗ (due c 0 -∗ semVal (recvCell c r) 0 -∗ wPts c s h fullShare (commAt m ρ c) -∗ run c (k ⟨⟩) Q)
      -∗ run c (.op (.waitDma2 q src (win s h) hsrc hdst) k) Q) := by
  subst hs hh hq
  iintro #Hrec
  have hw := wpE_waitDma2_eq (defs := defs₀ (F := F)) (sem := recvS r) (hsrc := hsrc) (hdst := hdst) 𝒱₀ (c : Thread nD τ) none (Set.univ : Set ℕ) (Ix := Unit) (U := UU) (Lvl := ℕ)
  rw [win_credit] at hw
  iapply (wp_take m ρ K c (.inr (.inr r)) 0 hw (expect_recv m ρ c r) (rest_recv m ρ c r)) $$ Hrec []
  rw [MayWait_zero]; iempintro

/-- The wait for the end of copy `i`. -/
theorem wp_sent (c : Dev nD) (i : Fin 6) (h : Fin 2) (t : PosShare TreeShare) (hh : h = half i) (ht : t = copyShare i) {q : DmaSem sig} (hq : q = sendS i) {src : Memref sig .tc .vmem S1024x128 .bf16}
    {hsrc : src.view.WordExact} {hdst : (win 0 h).view.WordExact}
    {α : Type} {Q : α → sProp 𝕄} {k : PUnit → Prog (TpuEff nD τ sig (Elt F) Λ₀ .tc) α} :
    records m ρ K ⊢ iprop(due c 0 -∗ cred (tallyAt (sendCell c i) () N) -∗ atPos ER (sendCell c i) 0 ∅ 0
      -∗ (due c 0 -∗ semVal (sendCell c i) 0 -∗ wPts c 0 h t (commAt m ρ c) -∗ run c (k ⟨⟩) Q)
      -∗ run c (.op (.waitDma2 q src (win 0 h) hsrc hdst) k) Q) := by
  subst hh ht hq
  iintro #Hrec
  have hw := wpE_waitDma2_eq (defs := defs₀ (F := F)) (sem := sendS i) (hsrc := hsrc) (hdst := hdst) 𝒱₀ (c : Thread nD τ) none (Set.univ : Set ℕ) (Ix := Unit) (U := UU) (Lvl := ℕ)
  rw [win_credit] at hw
  iapply (wp_take m ρ K c (.inr (.inl i)) 0 hw (expect_send m ρ c i) (rest_send m ρ c i)) $$ Hrec []
  rw [MayWait_zero]; iempintro

/-- Copy `i`: its share of the source and the window it writes go in, the credit of its send cell comes back. -/
theorem wp_copy (c : Dev nD) (i : Fin 6) (a b : ℕ) (h : Fin 2) (t : PosShare TreeShare) (ha : a = i.val) (hb : b = a + 1) (hh : h = half i) (ht : t = copyShare i)
    (n : Dev nD) (hn : n = nb c i) {src dst : Memref sig .tc .vmem S1024x128 .bf16} {sS sR : SemLoc sig}
    (hs : src = win 0 (half i)) (hd : dst = win (slot (mir i)) (half i)) (hsS : sS = .dma (sendS i)) (hsR : sR = .dma (recvS (mir i)))
    {hsc : (dst : Memref sig (Dev.tc n : Thread nD τ).2.kind .vmem S1024x128 .bf16).view.ref.isScScratch = false}
    {hsrc : src.view.WordExact} {hdst : dst.view.WordExact} {hsem : DmaTarget.Typed .vmem sR (.remote (Dev.tc n : Thread nD τ) dst sS hsc)}
    {α : Type} {Q : α → sProp 𝕄} {k : PUnit → Prog (TpuEff nD τ sig (Elt F) Λ₀ .tc) α} :
    records m ρ K ⊢ iprop(due c (from_ (owedR c) a) -∗ wPts c 0 h t (commAt m ρ c) -∗ landing c i
      -∗ dutyTok ER (sendCell c i) 0 0 -∗ dutyTok ER (recvCell (nb c i) (mir i)) 0 0
      -∗ (due c (from_ (owedR c) b) -∗ cred (tallyAt (sendCell c i) () N) -∗ run c (k ⟨⟩) Q)
      -∗ run c (.op (.enqueueDma src (.remote (Dev.tc n : Thread nD τ) dst sS hsc) sR hsrc hdst hsem) k) Q) := by
  subst ha hb hh ht hn hs hd hsS hsR
  unfold landing
  iintro #Hrec ⟨%W, HO⟩ Hs ⟨%fd, Hd⟩ HtS HtR Hk
  unfold wPts
  rw [← win_set, ← win_set]
  iapply (Rounds.wp_send_pointsTo 𝒱₀ ER (exRd m ρ) (c : Thread nD τ) none (c' := (nb c i : Thread nD τ)) (κ₁ := K (c, .inr (.inl i))) (κ₂ := K (nb c i, .inr (.inr (mir i))))
      (r₁ := 0) (r₂ := 0) (d₁ := 0) (d₂ := 0) (fd := fd) (q := copyShare i) (fs := commAt m ρ c)
      (by rw [duties_send]; exact Finset.mem_singleton_self _) (by rw [duties_recv]; exact Finset.mem_singleton_self _)
      () () N rfl rfl rfl (O₀ := from_ (owedR c) i.val) (from_ (owedR c) (i.val + 1)) (by rw [from_peel]; rfl) (W := W)
      (by rw [payload_send]; unfold sendPay wPts; rw [win_set])
      (by rw [payload_recv]; unfold recvPay wPts; rw [half_mir, win_set]
          exact Entails.of_eq (pointsTo_congr (landed_eq (kstg m ρ) (vstg m ρ) c (i.val / 2 + 1) (slot (mir i)) (half i) (slot_mir i) fd)))) $$ [HO Hs Hd HtS HtR]
  · isplitr; · iapply (inv_at m ρ K (c, .inr (.inl i))); iexact Hrec
    isplitr; · iapply (inv_at m ρ K (nb c i, .inr (.inr (mir i)))); iexact Hrec
    isplitl [Hs]; · iexact Hs
    isplitl [Hd]; · iexact Hd
    isplitl [HO]; · iexact HO
    isplitl [HtS]; · iexact HtS
    isplitr; · iapply (reached_at m ρ K (c, .inr (.inl i))); iexact Hrec
    isplitl [HtR]; · iexact HtR
    iapply (reached_at m ρ K (nb c i, .inr (.inr (mir i)))); iexact Hrec
  iintro ⟨Hc, HO⟩
  iapply Hk $$ [HO] Hc
  iexists W; iexact HO

theorem xM_setOn (M : Finset S4x2x1024x128.Idx) : xM.view.setOn M = M := Finset.map_refl

/-- A load inside a window, at any share and contents. -/
theorem wp_peek (c : Dev nD) (s : Fin 4) (h : Fin 2) (q : PosShare TreeShare) (f : S4x2x1024x128.Idx → Elt F .bf16) {r : LoadRect S4x2x1024x128}
    (hr : r.set ⊆ wset s h) {hl : xM.view.LoadsAt r} {α : Type} {Q : α → sProp 𝕄} {k : (r.shape.Idx → Elt F .bf16) → Prog (TpuEff nD τ sig (Elt F) Λ₀ .tc) α} :
    wPts c s h q f ⊢ iprop((wPts c s h q f -∗ run c (k (xM.view.readAt (Elt F) r f)) Q) -∗ run c (.op (.load xM r hl) k) Q) :=
  wp_load 𝒱₀ (c : Thread nD τ) none Set.univ (m := xM) (by rw [xM_setOn]; exact hr)

/-- The load of a half window's keys or values. -/
theorem wp_chunk (c : Dev nD) (s : Fin 4) (h o : Fin 2) (q : PosShare TreeShare) {hl : xM.view.LoadsAt (halfRect s h o).toLoadRect}
    {α : Type} {Q : α → sProp 𝕄} {k : (S1x1x512x128.Idx → Elt F .bf16) → Prog (TpuEff nD τ sig (Elt F) Λ₀ .tc) α} :
    wPts c s h q (commAt m ρ c) ⊢ iprop((wPts c s h q (commAt m ρ c) -∗ run c (k (chunk m ρ c s h o)) Q)
      -∗ run c (.op (.load xM (halfRect s h o).toLoadRect hl) k) Q) :=
  wp_peek c s h q (commAt m ρ c) (half_subset _ s h rfl rfl)

/-- A store inside a window. -/
theorem wp_put (c : Dev nD) (s : Fin 4) (h : Fin 2) (f : S4x2x1024x128.Idx → Elt F .bf16) {r : Rect S4x2x1024x128}
    (hr : r.set ⊆ wset s h) {w : r.shape.Idx → Elt F .bf16} {hx : (xM.access r).Stores Finset.univ} {hm}
    {α : Type} {Q : α → sProp 𝕄} {k : PUnit → Prog (TpuEff nD τ sig (Elt F) Λ₀ .tc) α} :
    wPts c s h fullShare f ⊢ iprop((wPts c s h fullShare ((xM.access r).write (Elt F) f w Finset.univ) -∗ run c (k ⟨⟩) Q)
      -∗ run c (.op (.store xM r w Finset.univ hx hm) k) Q) :=
  wp_store 𝒱₀ (c : Thread nD τ) none Set.univ (m := xM) (r := r) (Mk := Finset.univ) ((View.set_slice_whole _ _).trans_subset hr)

/-- The same, what is in the window afterwards called `g`. -/
theorem wp_put_as (c : Dev nD) (s : Fin 4) (h : Fin 2) (f : S4x2x1024x128.Idx → Elt F .bf16) {r : Rect S4x2x1024x128}
    (g : S4x2x1024x128.Idx → Elt F .bf16) {w : r.shape.Idx → Elt F .bf16}
    (hg : ∀ j ∈ wset s h, (xM.access r).write (Elt F) f w Finset.univ j = g j) (hr : r.set ⊆ wset s h) {hx : (xM.access r).Stores Finset.univ} {hm}
    {α : Type} {Q : α → sProp 𝕄} {k : PUnit → Prog (TpuEff nD τ sig (Elt F) Λ₀ .tc) α} :
    wPts c s h fullShare f ⊢ iprop((wPts c s h fullShare g -∗ run c (k ⟨⟩) Q)
      -∗ run c (.op (.store xM r w Finset.univ hx hm) k) Q) := by
  rw [← wPts_congr c s h fullShare hg]
  exact wp_put c s h f hr

end Effects

/-! ## The whole body -/

section Body

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- A half of slot 0 in four shares: three for its copies, one for the device's loads. -/
theorem shares (c : Dev nD) (h : Fin 2) (f : S4x2x1024x128.Idx → Elt F .bf16) :
    (wPts c 0 h fullShare f : sProp 𝕄) = iprop(wPts c 0 h (copyShare 0) f ∗ wPts c 0 h (copyShare 2) f ∗ wPts c 0 h (copyShare 4) f ∗ wPts c 0 h loadShare f) := by
  unfold wPts
  rw [pointsTo_leaves (n := 2), bigSep_fin4]
  rfl

/-- The buffer as its eight windows. -/
theorem windows (c : Dev nD) (f : S4x2x1024x128.Idx → Elt F .bf16) :
    ((((c : Thread nD τ).loc cc0_scratch0) ↦{fullShare} f : sProp 𝕄))
      = iprop(wPts c 0 0 fullShare f ∗ wPts c 0 1 fullShare f ∗ wPts c 1 0 fullShare f ∗ wPts c 1 1 fullShare f
        ∗ wPts c 2 0 fullShare f ∗ wPts c 2 1 fullShare f ∗ wPts c 3 0 fullShare f ∗ wPts c 3 1 fullShare f) := by
  have h := (pointsTo_biUnion (Ix := Unit) (Name := ℕ) (U := UU) (Lvl := ℕ) (ℓ := (c : Thread nD τ).loc cc0_scratch0) (q := fullShare) (f := f) (Finset.univ : Finset (Fin 4 × Fin 2)) (fun p => wset p.1 p.2)
    (fun p _ p' _ hne => wset_disjoint hne))
  rw [wset_cover] at h
  rw [h]
  exact bigSep_univ_eq_bigSepL [(0, 0), (0, 1), (1, 0), (1, 1), (2, 0), (2, 1), (3, 0), (3, 1)] (by decide) (by decide) _

/-- A staging buffer held whole. -/
abbrev stg (c : Dev nD) (b : Ref sig .tc) (X : b.ty.Contents (Elt F)) : sProp 𝕄 :=
  (((c : Thread nD τ).loc b) ↦{fullShare} X)

def bodyPre (K : Dev nD × CIx → ℕ) (c : Dev nD) : sProp 𝕄 :=
  iprop(records m ρ K ∗ linear c ∗ idle c ∗ creds c ∗ levAts L lv ∗ (∃ f, ((c : Thread nD τ).loc cc0_scratch0) ↦{fullShare} f)
    ∗ due c (O₀ c) ∗ stg c cc0_stg0_0 (qstg m ρ c) ∗ stg c cc0_stg1_0 (kstg m ρ c) ∗ stg c cc0_stg2_0 (vstg m ρ c) ∗ (∃ f, stg c cc0_stg3_0 f))

def bodyPost (c : Dev nD) : sProp 𝕄 :=
  iprop(Φ₁ c ∗ due c 0 ∗ stg c cc0_stg0_0 (qstg m ρ c) ∗ stg c cc0_stg1_0 (kstg m ρ c) ∗ stg c cc0_stg2_0 (vstg m ρ c) ∗ stg c cc0_stg3_0 (outAt m ρ c))

theorem dev1_eq : ∀ c, (⟨k0_dev1 c, k0_dev1_lt c⟩ : Dev nD) = bto c 0 := by decide +kernel
theorem dev2_eq : ∀ c, (⟨k0_dev2 c, k0_dev2_lt c⟩ : Dev nD) = bto c 1 := by decide +kernel
theorem dev3_eq : ∀ c, (⟨k0_dev3 c, k0_dev3_lt c⟩ : Dev nD) = bto c 2 := by decide +kernel
theorem dev4_eq : ∀ c, (⟨k0_dev4 c, k0_dev4_lt c⟩ : Dev nD) = nb c 0 := by decide +kernel
theorem dev5_eq : ∀ c, (⟨k0_dev5 c, k0_dev5_lt c⟩ : Dev nD) = nb c 1 := by decide +kernel
theorem dev6_eq : ∀ c, (⟨k0_dev6 c, k0_dev6_lt c⟩ : Dev nD) = nb c 2 := by decide +kernel
theorem dev7_eq : ∀ c, (⟨k0_dev7 c, k0_dev7_lt c⟩ : Dev nD) = nb c 3 := by decide +kernel
theorem dev8_eq : ∀ c, (⟨k0_dev8 c, k0_dev8_lt c⟩ : Dev nD) = nb c 4 := by decide +kernel
theorem dev9_eq : ∀ c, (⟨k0_dev9 c, k0_dev9_lt c⟩ : Dev nD) = nb c 5 := by decide +kernel

theorem offs_zero : (![0, 0] : Fin 2 → Nat) = fun _ => 0 := funext fun a => by fin_cases a <;> rfl
abbrev r0 : Rect S1024x128 := Rect.unit (s := S1024x128) ![0, 0] S1024x128.size inb_S1024x128_S1024x128_0_0
/-- The load of the queries reads them, … -/
theorem read_q (f : (cc0_stg0_0 : Ref sig .tc).ty.Contents (Elt F)) : qM.view.readAt (Elt F) r0.toLoadRect f = f :=
  Memref.readAt_unit_zero (Elt F) cc0_stg0_0 offs_zero _ f
/-- … and the store of the output leaves what is stored. -/
theorem write_out (f w : (cc0_stg3_0 : Ref sig .tc).ty.Contents (Elt F)) : (oM.access r0 : View sig .tc _ _ _).write (Elt F) f w Finset.univ = w :=
  Memref.write_access_unit_zero_univ (Elt F) cc0_stg3_0 offs_zero _ f w

/-! The printer cut the eight half windows' arithmetic at statement counts, so that equal arithmetic has several names; here each
    is brought to the names `absorb` uses. -/

section Names
variable (q : Vec F S1024x128 .bf16) (t s : FVec F S1024x1 .f32) (a : FVec F S1024x128 .f32) (k k' v v' : Vec F S1x1x512x128 .bf16)

theorem nm1 : k0_pay10 q k = k0_pay48 (k0_pay6 q) k0_pay7 (k0_pay46 k) := rfl
theorem nm2 : k0_pay13 q k = k0_pay51 (k0_pay6 q) k0_pay7 accZero.sum (k0_pay46 k) := rfl
theorem nm3 : k0_pay17 q t k = k0_pay48 q t (k0_pay46 k) := rfl
theorem nm4 : k0_pay23 q t k = k0_pay48 q t (k0_pay46 k) := rfl
theorem nm5 : k0_pay29 q t k = k0_pay48 q t (k0_pay46 k) := rfl
theorem nm6 : k0_pay35 q t k = k0_pay48 q t (k0_pay46 k) := rfl
theorem nm7 : k0_pay41 q t k = k0_pay48 q t (k0_pay46 k) := rfl
theorem nm8 : k0_pay20 q t s k = k0_pay51 q t s (k0_pay46 k) := rfl
theorem nm9 : k0_pay26 q t s k = k0_pay51 q t s (k0_pay46 k) := rfl
theorem nm10 : k0_pay32 q t s k = k0_pay51 q t s (k0_pay46 k) := rfl
theorem nm11 : k0_pay38 q t s k = k0_pay51 q t s (k0_pay46 k) := rfl
theorem nm12 : k0_pay44 q t s k = k0_pay51 q t s (k0_pay46 k) := rfl
theorem nm13 : k0_pay27 q t a k v = k0_pay52 q t a (k0_pay46 k) v := rfl
theorem nm14 : k0_pay33 q t a k v = k0_pay52 q t a (k0_pay46 k) v := rfl
theorem nm15 : k0_pay39 q t a k v = k0_pay52 q t a (k0_pay46 k) v := rfl
theorem nm16 : k0_pay45 q t a k v = k0_pay52 q t a (k0_pay46 k) v := rfl
theorem nm17 : k0_pay53 k = k0_pay46 k := rfl
theorem nm18 : k0_pay58 q t s (k0_pay46 k) = k0_pay51 q t s (k0_pay46 k) := rfl
theorem nm19 : k0_pay59 q t a (k0_pay46 k) v = k0_pay52 q t a (k0_pay46 k) v := rfl
theorem nm20 : k0_pay21 (k0_pay6 q) (k0_pay8 v) t (k0_pay14 q k) (k0_pay15 q k) k' v' = k0_pay52 (k0_pay6 q) t (k0_pay52 (k0_pay6 q) k0_pay7 accZero.out (k0_pay46 k) v) (k0_pay46 k') v' := rfl

end Names

set_option maxHeartbeats 4000000 in
set_option maxRecDepth 4000 in
/-- The body, executed from `bodyPre`, one rule per effect in program order, to `bodyPost`. -/
theorem sound_body (K : Dev nD × CIx → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel k0_part15_skel
  simp only [semSignalWord, semWaitWord, Prog.lift, Prog.bind_op, Prog.bind_ret, Prog.pure_eq_ret, wp_deviceId]
  unfold bodyPre linear creds O₀
  rw [bigSep_fin6, bigSep_fin6, bigSep_fin3, bigSep_fin6, bigSep_fin6, bigSep_fin6]
  iintro ⟨⟨#Hrec, ⟨⟨HaB, ⟨Hs0, Hs1, Hs2, Hs3, Hs4, Hs5⟩, ⟨Hr0, Hr1, Hr2, Hr3, Hr4, Hr5⟩⟩, ⟨Hb0, Hb1, Hb2⟩, ⟨Ht0, Ht1, Ht2, Ht3, Ht4, Ht5⟩,
    ⟨Hu0, Hu1, Hu2, Hu3, Hu4, Hu5⟩⟩, Hidle, ⟨HcB, ⟨Hc0, Hc1, Hc2, Hc3, Hc4, Hc5⟩⟩, Hlev, ⟨%f, Hx⟩, HO, Hq, Hk, Hv, ⟨%g, Hout⟩⟩, Hend⟩
  ihave Hw := (Entails.of_eq (windows c f)) $$ Hx
  icases Hw with ⟨W00, W01, W10, W11, W20, W21, W30, W31⟩
  -- the device's own keys and values into slot 0
  iapply (wp_load 𝒱₀ (c : Thread nD τ) none Set.univ (m := kM) (Finset.subset_univ _)) $$ Hk; iintro Hk
  iapply (wp_peek c 0 0 fullShare f (half_subset _ 0 0 rfl rfl)) $$ W00; iintro W00
  iapply (wp_put c 0 0 f (half_subset _ 0 0 rfl rfl)) $$ W00; iintro W00
  iapply (wp_load 𝒱₀ (c : Thread nD τ) none Set.univ (m := vM) (Finset.subset_univ _)) $$ Hv; iintro Hv
  iapply (wp_peek c 0 0 fullShare _ (half_subset _ 0 0 rfl rfl)) $$ W00; iintro W00
  iapply (wp_put_as c 0 0 _ (commAt m ρ c) (stored_eq (kstg m ρ) (vstg m ρ) c 0 f _ _ _) (half_subset _ 0 0 rfl rfl)) $$ W00; iintro W00
  iapply (wp_load 𝒱₀ (c : Thread nD τ) none Set.univ (m := kM) (Finset.subset_univ _)) $$ Hk; iintro Hk
  iapply (wp_peek c 0 1 fullShare f (half_subset _ 0 1 rfl rfl)) $$ W01; iintro W01
  iapply (wp_put c 0 1 f (half_subset _ 0 1 rfl rfl)) $$ W01; iintro W01
  iapply (wp_load 𝒱₀ (c : Thread nD τ) none Set.univ (m := vM) (Finset.subset_univ _)) $$ Hv; iintro Hv
  iapply (wp_peek c 0 1 fullShare _ (half_subset _ 0 1 rfl rfl)) $$ W01; iintro W01
  iapply (wp_put_as c 0 1 _ (commAt m ρ c) (stored_eq (kstg m ρ) (vstg m ρ) c 1 f _ _ _) (half_subset _ 0 1 rfl rfl)) $$ W01; iintro W01
  -- the barrier
  iapply (wp_sig m ρ K c 0 0 1 rfl rfl _ (dev1_eq c) rfl) $$ Hrec HO Hb0 [W10] [W11]
  · iexists f; iexact W10
  · iexists f; iexact W11
  iintro HO
  iapply (wp_sig m ρ K c 1 1 2 rfl rfl _ (dev2_eq c) rfl) $$ Hrec HO Hb1 [W20] [W21]
  · iexists f; iexact W20
  · iexists f; iexact W21
  iintro HO
  iapply (wp_sig m ρ K c 2 2 3 rfl rfl _ (dev3_eq c) rfl) $$ Hrec HO Hb2 [W30] [W31]
  · iexists f; iexact W30
  · iexists f; iexact W31
  iintro HO
  rw [show from_ (owedR c) 0 + from_ (owedB c) 3 = from_ (owedR c) 0 from
    (congrArg _ (from_end (owedB c))).trans (add_zero _)]
  iapply (wp_bar m ρ K c rfl) $$ Hrec Hlev HO HcB HaB
  iintro HO HzB ⟨⟨L0, L1⟩, ⟨L2, L3⟩, ⟨L4, L5⟩⟩
  -- the six copies
  ihave V := (Entails.of_eq (shares c 0 (commAt m ρ c))) $$ W00
  icases V with ⟨V0, V2, V4, V00⟩
  ihave V := (Entails.of_eq (shares c 1 (commAt m ρ c))) $$ W01
  icases V with ⟨V1, V3, V5, V01⟩
  iapply (wp_copy m ρ K c 0 0 1 0 (copyShare 0) rfl rfl rfl rfl _ (dev4_eq c) rfl rfl rfl rfl) $$ Hrec HO V0 L0 Hu0 Ht0; iintro HO Hd0
  iapply (wp_copy m ρ K c 1 1 2 1 (copyShare 0) rfl rfl rfl rfl _ (dev5_eq c) rfl rfl rfl rfl) $$ Hrec HO V1 L1 Hu1 Ht1; iintro HO Hd1
  iapply (wp_copy m ρ K c 2 2 3 0 (copyShare 2) rfl rfl rfl rfl _ (dev6_eq c) rfl rfl rfl rfl) $$ Hrec HO V2 L2 Hu2 Ht2; iintro HO Hd2
  iapply (wp_copy m ρ K c 3 3 4 1 (copyShare 2) rfl rfl rfl rfl _ (dev7_eq c) rfl rfl rfl rfl) $$ Hrec HO V3 L3 Hu3 Ht3; iintro HO Hd3
  iapply (wp_copy m ρ K c 4 4 5 0 (copyShare 4) rfl rfl rfl rfl _ (dev8_eq c) rfl rfl rfl rfl) $$ Hrec HO V4 L4 Hu4 Ht4; iintro HO Hd4
  iapply (wp_copy m ρ K c 5 5 6 1 (copyShare 4) rfl rfl rfl rfl _ (dev9_eq c) rfl rfl rfl rfl) $$ Hrec HO V5 L5 Hu5 Ht5; iintro HO Hd5
  rw [show from_ (owedR c) 6 = 0 from from_end (owedR c)]
  -- the queries and the device's own keys and values
  iapply (wp_load 𝒱₀ (c : Thread nD τ) none Set.univ (m := qM) (Finset.subset_univ _)) $$ Hq; iintro Hq
  rw [read_q]
  iapply (wp_chunk m ρ c 0 0 0 loadShare) $$ V00; iintro V00
  iapply (wp_chunk m ρ c 0 0 1 loadShare) $$ V00; iintro V00
  iapply (wp_chunk m ρ c 0 1 0 loadShare) $$ V01; iintro V01
  iapply (wp_chunk m ρ c 0 1 1 loadShare) $$ V01; iintro V01
  -- each arrival and its keys and values
  iapply (wp_recv m ρ K c 4 3 0 rfl rfl rfl) $$ Hrec HO Hc4 Hr4; iintro HO HzR4 W30
  iapply (wp_chunk m ρ c 3 0 0 fullShare) $$ W30; iintro W30
  iapply (wp_chunk m ρ c 3 0 1 fullShare) $$ W30; iintro W30
  iapply (wp_recv m ρ K c 0 1 0 rfl rfl rfl) $$ Hrec HO Hc0 Hr0; iintro HO HzR0 W10
  iapply (wp_chunk m ρ c 1 0 0 fullShare) $$ W10; iintro W10
  iapply (wp_chunk m ρ c 1 0 1 fullShare) $$ W10; iintro W10
  iapply (wp_recv m ρ K c 5 3 1 rfl rfl rfl) $$ Hrec HO Hc5 Hr5; iintro HO HzR5 W31
  iapply (wp_chunk m ρ c 3 1 0 fullShare) $$ W31; iintro W31
  iapply (wp_chunk m ρ c 3 1 1 fullShare) $$ W31; iintro W31
  iapply (wp_recv m ρ K c 1 1 1 rfl rfl rfl) $$ Hrec HO Hc1 Hr1; iintro HO HzR1 W11
  iapply (wp_chunk m ρ c 1 1 0 fullShare) $$ W11; iintro W11
  iapply (wp_chunk m ρ c 1 1 1 fullShare) $$ W11; iintro W11
  iapply (wp_recv m ρ K c 2 2 0 rfl rfl rfl) $$ Hrec HO Hc2 Hr2; iintro HO HzR2 W20
  iapply (wp_chunk m ρ c 2 0 0 fullShare) $$ W20; iintro W20
  iapply (wp_chunk m ρ c 2 0 1 fullShare) $$ W20; iintro W20
  iapply (wp_recv m ρ K c 3 2 1 rfl rfl rfl) $$ Hrec HO Hc3 Hr3; iintro HO HzR3 W21
  iapply (wp_chunk m ρ c 2 1 0 fullShare) $$ W21; iintro W21
  iapply (wp_chunk m ρ c 2 1 1 fullShare) $$ W21; iintro W21
  -- the ends of the copies
  iapply (wp_sent m ρ K c 0 0 (copyShare 0) rfl rfl rfl) $$ Hrec HO Hd0 Hs0; iintro HO HzS0 V0
  iapply (wp_sent m ρ K c 1 1 (copyShare 0) rfl rfl rfl) $$ Hrec HO Hd1 Hs1; iintro HO HzS1 V1
  iapply (wp_sent m ρ K c 2 0 (copyShare 2) rfl rfl rfl) $$ Hrec HO Hd2 Hs2; iintro HO HzS2 V2
  iapply (wp_sent m ρ K c 3 1 (copyShare 2) rfl rfl rfl) $$ Hrec HO Hd3 Hs3; iintro HO HzS3 V3
  iapply (wp_sent m ρ K c 4 0 (copyShare 4) rfl rfl rfl) $$ Hrec HO Hd4 Hs4; iintro HO HzS4 V4
  iapply (wp_sent m ρ K c 5 1 (copyShare 4) rfl rfl rfl) $$ Hrec HO Hd5 Hs5; iintro HO HzS5 V5
  -- the output block
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out, wp_ret]; imodintro
  ihave W00 := (Entails.of_eq (shares c 0 (commAt m ρ c)).symm) $$ [V0 V2 V4 V00]
  · isplitl [V0]; · iexact V0
    isplitl [V2]; · iexact V2
    isplitl [V4] <;> iassumption
  ihave W01 := (Entails.of_eq (shares c 1 (commAt m ρ c)).symm) $$ [V1 V3 V5 V01]
  · isplitl [V1]; · iexact V1
    isplitl [V3]; · iexact V3
    isplitl [V5] <;> iassumption
  ihave Hx := (Entails.of_eq (windows c (commAt m ρ c)).symm) $$ [W00 W01 W10 W11 W20 W21 W30 W31]
  · isplitl [W00]; · iexact W00
    isplitl [W01]; · iexact W01
    isplitl [W10]; · iexact W10
    isplitl [W11]; · iexact W11
    isplitl [W20]; · iexact W20
    isplitl [W21]; · iexact W21
    isplitl [W30] <;> iassumption
  iapply Hend
  unfold bodyPost Φ₁
  rw [bigSep_fin6, bigSep_fin6]
  isplitl [Hx Hidle HzB HzS0 HzS1 HzS2 HzS3 HzS4 HzS5 HzR0 HzR1 HzR2 HzR3 HzR4 HzR5]
  · isplitl [Hx]; · iexists _; iexact Hx
    isplitl [Hidle]; · iexact Hidle
    isplitl [HzB]; · iexact HzB
    isplitl [HzS0 HzS1 HzS2 HzS3 HzS4 HzS5]
    · isplitl [HzS0]; · iexact HzS0
      isplitl [HzS1]; · iexact HzS1
      isplitl [HzS2]; · iexact HzS2
      isplitl [HzS3]; · iexact HzS3
      isplitl [HzS4] <;> iassumption
    isplitl [HzR0]; · iexact HzR0
    isplitl [HzR1]; · iexact HzR1
    isplitl [HzR2]; · iexact HzR2
    isplitl [HzR3]; · iexact HzR3
    isplitl [HzR4] <;> iassumption
  isplitl [HO]; · iexact HO
  isplitl [Hq]; · iexact Hq
  isplitl [Hk]; · iexact Hk
  isplitl [Hv]; · iexact Hv
  simp only [nm1, nm2, nm3, nm4, nm5, nm6, nm7, nm8, nm9, nm10, nm11, nm12, nm13, nm14, nm15, nm16, nm17, nm18, nm19, nm20]
  unfold outAt accAt
  simp only [order, List.foldl_cons, List.foldl_nil, absorb]
  iexact Hout

end Body

end Cert.Exchange

end
-- ==== Proof.Launch.lean ====
/-
# `Launch`: the run of the four devices

The body's resources and the launch's put together: the proof data of the one kernel launch, the tokens and the credit dealt along
`bsig` and `xfer`, and the run: from any memory with every semaphore at zero the program ends, the three argument arrays as they
were, the result array at `outAt`, every semaphore at zero again.
-/
module

public import Idealize.ShloMosaic.Lib.Pipeline.CollectiveSegs
public import proofs.«01_k».proof.Proof.Body
public import proofs.«01_k».proof.Proof.Gen.KernelIdeal.Points

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]
local notation "𝕄" => MT nD τ sig Unit (Elt F) ℕ UU ℕ
variable (m : (ℓ : Loc nD τ sig) → Buf (Elt F) ℓ) (ρ : Dev nD → PrngReg)

/-! ## The proof data and the body obligation -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qstg m ρ c
    | ⟨1, _⟩ => kstg m ρ c
    | ⟨2, _⟩ => vstg m ρ c
    | ⟨3, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A buffer owned whole is its points-to. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns
  simp only [Memref.view_whole, View.read_whole, View.set_whole]
  have h₁ : (iprop(∃ f : Buf (Elt F) ((c : Thread nD τ).loc b), ⌜f = X⌝ ∗ stg c b f) : sProp 𝕄) ⊢ stg c b X := by
    iintro ⟨%f, %hf, H⟩
    subst hf
    iexact H
  have h₂ : stg c b X ⊢ (iprop(∃ f : Buf (Elt F) ((c : Thread nD τ).loc b), ⌜f = X⌝ ∗ stg c b f) : sProp 𝕄) := by
    iintro H
    iexists X
    isplitr; · (ipureintro; rfl)
    iexact H
  exact equiv_iff.mp ⟨h₁, h₂⟩

theorem before_q (c : Dev nD) (d) : (dats m ρ 0 c).before (0 : Fin 4) t0_0 d = qstg m ρ c := by unfold Dat.before; rw [if_pos (fetch0_0 _)]; rfl
theorem before_k (c : Dev nD) (d) : (dats m ρ 0 c).before (1 : Fin 4) t0_0 d = kstg m ρ c := by unfold Dat.before; rw [if_pos (fetch0_1 _)]; rfl
theorem before_v (c : Dev nD) (d) : (dats m ρ 0 c).before (2 : Fin 4) t0_0 d = vstg m ρ c := by unfold Dat.before; rw [if_pos (fetch0_2 _)]; rfl

/-- What the pipeline hands the body at its one point. -/
def bodyGot (c : Dev nD) : sProp 𝕄 :=
  iprop(Φ₀ m ρ c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
/-- What it takes back. -/
def bodyLeft (c : Dev nD) : sProp 𝕄 :=
  iprop(Φ₁ c ∗ (dats m ρ 0 c).owesAt () t0_0.succ ∗ stg c cc0_stg0_0 (qstg m ρ c) ∗ stg c cc0_stg1_0 (kstg m ρ c) ∗ stg c cc0_stg2_0 (vstg m ρ c)
    ∗ stg c cc0_stg3_0 (outAt m ρ c))

set_option maxRecDepth 4000 in
theorem body_obligation (c : Dev nD) : BodyObligation (dats (F := F) m ρ 0 c) (defs₀ (F := F)) 𝒱₀ () Set.univ := fun t => by
  rw [fin_N0 t]
  have hW : ∀ Φ : Fin cfg0.W → sProp 𝕄, bigSep Finset.univ Φ = iprop(Φ (0 : Fin 4) ∗ Φ (1 : Fin 4) ∗ Φ (2 : Fin 4) ∗ Φ (3 : Fin 4)) := bigSep_W0
  rw [hW, hW]
  simp only [owns_whole]
  show bodyGot m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyLeft m ρ c)
  unfold bodyGot Φ₀ start Dat.owesAt Pipeline.owesWithin
  simp only [before_q, before_k, before_v]
  iintro ⟨⟨⟨⟨%K, #Hrec, Hlin⟩, Hidle, Hcr, Hlev⟩, Hx⟩, ⟨%W, %hW', HO⟩, ⟨%d0, Hq⟩, ⟨%d1, Hk⟩, ⟨%d2, Hv⟩, ⟨%d3, Hout⟩⟩
  iapply (sound_body m ρ K c fun _ => bodyLeft m ρ c)
  unfold bodyPre
  isplitl
  · isplitr; · iexact Hrec
    isplitl [Hlin]; · iexact Hlin
    isplitl [Hidle]; · iexact Hidle
    isplitl [Hcr]; · iexact Hcr
    isplitl [Hlev]; · iexact Hlev
    isplitl [Hx]; · iexact Hx
    isplitl [HO]; · iexists W; iexact HO
    isplitl [Hq]; · iexact Hq
    isplitl [Hk]; · iexact Hk
    isplitl [Hv]; · iexact Hv
    iexists _; iexact Hout
  · unfold bodyPost bodyLeft Dat.owesAt Pipeline.owesWithin
    iintro ⟨HΦ, ⟨%W', HO⟩, Hrest⟩
    isplitl [HΦ]; · iexact HΦ
    isplitl [HO]
    · iexists W'
      isplitr; · ipureintro; exact fun _ _ => Or.inl trivial
      iexact HO
    iexact Hrest

/-! ## The launch -/

/-- The kernel's own semaphores as the launch counts them: send, idle, receive. -/
abbrev OIx : Type := Fin 6 ⊕ Fin 2 ⊕ Fin 6
abbrev osem : OIx → SemLoc sig
  | .inl i => .dma (sendS i)
  | .inr (.inl k) => .dma (idleS k)
  | .inr (.inr r) => .dma (recvS r)

theorem ownSemFacts : Pipeline.OwnSemFacts cfg0.spec osem := by decide

theorem share_eq (c : Dev nD) (w : Fin cfg0.W) : (dats m ρ 0 c).share w = fullShare := by unfold Dat.share; split <;> rfl

def cells : Finset (GSem nD τ sig) := Finset.univ.map ⟨kcell, kcell_injective⟩

/-- The duty tokens as minted: a device's three of its barrier, one of each of its send and receive cells. -/
abbrev TIx : Type := Fin 3 ⊕ Fin 6 ⊕ Fin 6
def tokAt : TIx → CIx × Fin 3
  | .inl d => (.inl (), d)
  | .inr (.inl i) => (.inr (.inl i), 0)
  | .inr (.inr r) => (.inr (.inr r), 0)
theorem tokAt_injective : Function.Injective tokAt := by decide
def tokOf (cj : Dev nD × TIx) : GSem nD τ sig × ℕ × Fin 3 := (kcell (cj.1, (tokAt cj.2).1), 0, (tokAt cj.2).2)
theorem tokOf_injective : Function.Injective tokOf := by
  rintro ⟨c, j⟩ ⟨c', j'⟩ h
  have h1 : (c, (tokAt j).1) = (c', (tokAt j').1) := kcell_injective (congrArg Prod.fst h)
  have h2 : (tokAt j).2 = (tokAt j').2 := congrArg (fun x : GSem nD τ sig × ℕ × Fin 3 => x.2.2) h
  have h0 : c = c' := congrArg Prod.fst h1
  exact Prod.ext h0 (tokAt_injective (Prod.ext (congrArg Prod.snd h1) h2))
def tokens : Finset (GSem nD τ sig × ℕ × Fin 3) := Finset.univ.map ⟨tokOf, tokOf_injective⟩

def u₀ : UU :=
  (initOf (Pipeline.cells cfgs cellOf_inj) (Pipeline.launchToks cfgs cellOf_inj), initOf cells tokens)

/-- The duty tokens of device `c`'s own cells. -/
def toks (c : Dev nD) : sProp 𝕄 :=
  iprop((bigSep Finset.univ fun d : Fin 3 => dutyTok ER (barCell c) 0 d) ∗ (bigSep Finset.univ fun i : Fin 6 => dutyTok ER (sendCell c i) 0 0)
    ∗ (bigSep Finset.univ fun r : Fin 6 => dutyTok ER (recvCell c r) 0 0))

/-- What the launch element deals device `c`. -/
def G (c : Dev nD) : sProp 𝕄 :=
  iprop((bigSep Finset.univ fun k : CIx => roundState ER (exRd m ρ) (kcell (c, k)) 0)
    ∗ (bigSep Finset.univ fun k : CIx => iprop(atPos ER (kcell (c, k)) 0 ∅ 0 ∗ reached ER (kcell (c, k)) 0)) ∗ toks c)

/-- What the global step makes of it. -/
def G' (c : Dev nD) : sProp 𝕄 := iprop((∃ K, records m ρ K ∗ linear c) ∗ idle c)

theorem fund_cells : BI.own (ER (initOf cells tokens)) ⊢ (|==> bigSep Finset.univ (G m ρ) : sProp 𝕄) := by
  have hX (Φ : GSem nD τ sig → sProp 𝕄) : bigSep cells Φ = bigSep Finset.univ fun c : Dev nD => bigSep Finset.univ fun k : CIx => Φ (kcell (c, k)) := by
    unfold cells; rw [bigSep_map, bigSep_univ_prod]; rfl
  have hT : bigSep tokens (fun x => (dutyTok ER x.1 x.2.1 x.2.2 : sProp 𝕄)) = bigSep Finset.univ fun c : Dev nD => toks c := by
    unfold tokens; rw [bigSep_map, bigSep_univ_prod]
    exact bigSep_congr fun c _ => by unfold toks; rw [bigSep_univ_sum, bigSep_univ_sum]; rfl
  iintro HX
  imod (Rounds.fund ER (exRd m ρ) cells tokens) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem bigSep_fin2 (Φ : Fin 2 → sProp 𝕄) : bigSep Finset.univ Φ = iprop(Φ 0 ∗ Φ 1) := bigSep_univ_eq_bigSepL [0, 1] (by decide) (by decide) Φ

theorem ownSems0_eq (c : Dev nD) : (Pipeline.ownSems0 (Ix := Unit) (Name := ℕ) (U := UU) (Lvl := ℕ) (Val := Elt F) (τ := τ) osem c : sProp 𝕄)
    = iprop((bigSep Finset.univ fun i : Fin 6 => semVal (sendCell c i) 0) ∗ idle c ∗ (bigSep Finset.univ fun r : Fin 6 => semVal (recvCell c r) 0)) := by
  unfold Pipeline.ownSems0 idle
  rw [bigSep_univ_sum, bigSep_univ_sum, bigSep_fin2]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A `bigSep` over a device's cells, by kind. -/
theorem bigSep_cells (Φ : CIx → sProp 𝕄) : bigSep Finset.univ Φ
    = iprop(Φ (.inl ()) ∗ (bigSep Finset.univ fun i : Fin 6 => Φ (.inr (.inl i))) ∗ (bigSep Finset.univ fun r : Fin 6 => Φ (.inr (.inr r)))) := by
  rw [bigSep_univ_sum, bigSep_univ_sum, Finset.univ_unique, bigSep_singleton]; rfl

theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : CIx => semVal (kcell (c, k)) 0) ∗ idle c) : sProp 𝕄) := by
  rw [ownSems0_eq, unscopedSems0_eq, bigSep_cells]
  iintro ⟨⟨HS, Hi, HV⟩, HB⟩
  isplitr [Hi]
  · isplitl [HB]; · iexact HB
    isplitl [HS]; · iexact HS
    iexact HV
  iexact Hi

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c ∗ idle c) := by
  unfold G
  iintro ⟨Hos, Hus, Hst, Hat, Htok⟩
  ihave Hv := (sems0_eq (F := F) c) $$ [Hos Hus]
  · isplitl [Hos] <;> iassumption
  icases Hv with ⟨Hv, Hi⟩
  imod (show iprop((bigSep Finset.univ fun k : CIx => semVal (kcell (c, k)) 0) ∗ bigSep Finset.univ fun k : CIx => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The tokens device `c` pays with. -/
def payToks (c : Dev nD) : sProp 𝕄 :=
  iprop((bigSep Finset.univ fun j : Fin 3 => dutyTok ER (barCell (bto c j)) 0 (rev j))
    ∗ (bigSep Finset.univ fun i : Fin 6 => dutyTok ER (recvCell (nb c i) (mir i)) 0 0)
    ∗ (bigSep Finset.univ fun i : Fin 6 => dutyTok ER (sendCell c i) 0 0))

/-- The tokens dealt: a barrier's along `bsig`, a receive cell's along `xfer`. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    ← bigSep_univ_prod (fun x : Dev nD × Fin 3 => (dutyTok ER (barCell x.1) 0 x.2 : sProp 𝕄)),
    ← bigSep_univ_prod (fun x : Dev nD × Fin 6 => (dutyTok ER (recvCell x.1 x.2) 0 0 : sProp 𝕄)),
    bigSep_univ_equiv bsig (fun x : Dev nD × Fin 3 => (dutyTok ER (barCell x.1) 0 x.2 : sProp 𝕄)),
    bigSep_univ_equiv xfer (fun x : Dev nD × Fin 6 => (dutyTok ER (recvCell x.1 x.2) 0 0 : sProp 𝕄)),
    bigSep_univ_prod, bigSep_univ_prod]
  iintro ⟨H1, H2, H3⟩
  isplitl [H1]; · iexact H1
  isplitl [H3]; · iexact H3
  iexact H2

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CIx → ℕ) (c : Dev nD) :
    iprop(records m ρ K ∗ ((bigSep Finset.univ fun k : CIx => atPos ER (kcell (c, k)) 0 ∅ 0) ∗ payToks c ∗ idle c)) ⊢ G' m ρ c := by
  unfold G' linear payToks
  rw [bigSep_cells]
  iintro ⟨HR, Hat, Htk, Hi⟩
  isplitr [Hi]
  · iexists K
    isplitl [HR]; · iexact HR
    isplitl [Hat]; · iexact Hat
    iexact Htk
  iexact Hi

theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c ∗ idle c) : sProp 𝕄)
      ⊢ bigSep Finset.univ (G' m ρ) := by
  rw [bigSep_sep', bigSep_sep', bigSep_sep', ← bigSep_univ_prod (fun ck : Dev nD × CIx => iprop(∃ κ : ℕ, cellInv ER (exRd m ρ) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok, Hi⟩
  ihave HK := (BI.bigSep_exists_pi Finset.univ (fun (ck : Dev nD × CIx) (κ : ℕ) => (cellInv ER (exRd m ρ) κ (kcell ck) : sProp 𝕄))) $$ HI
  icases HK with ⟨%K, #HI⟩
  ihave Htk := (toks_around (F := F)) $$ Htok
  iapply (bigSep_with (R := records m ρ K) fun c _ => ghost_intro m ρ K c)
  isplitr
  · unfold records; isplitl; · iexact HI
    iexact HR
  · rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem kcell_iff {a b : Dev nD × CIx} : kcell a = kcell b ↔ a = b := ⟨fun h => kcell_injective h, fun h => h ▸ rfl⟩

/-- What all devices together owe a cell: over the arrivals and the signals as they land. -/
theorem owed_sum (g : GSem nD τ sig) : (∑ d : Dev nD, O₀ d g ())
    = (∑ x : Dev nD × Fin 6, if g = recvCell x.1 x.2 then N else 0) + ∑ x : Dev nD × Fin 3, if g = barCell x.1 then 1 else 0 := by
  have h : ∀ d : Dev nD, O₀ d g () = (∑ i, owedR d i g ()) + ∑ j, owedB d j g () := fun d => by
    unfold O₀; rw [Pi.add_apply, Finsupp.add_apply, from_zero, from_zero, apply_sum, apply_sum]
  rw [Finset.sum_congr rfl fun d _ => h d, Finset.sum_add_distrib, ← Fintype.sum_prod_type', ← Fintype.sum_prod_type']
  refine congrArg₂ (· + ·) ?_ ?_
  · rw [← Equiv.sum_comp xfer fun x : Dev nD × Fin 6 => if g = recvCell x.1 x.2 then N else 0]; exact Finset.sum_congr rfl fun x _ => owedR_apply x.1 x.2 g
  · rw [← Equiv.sum_comp bsig fun x : Dev nD × Fin 3 => if g = barCell x.1 then 1 else 0]; exact Finset.sum_congr rfl fun x _ => owedB_apply x.1 x.2 g

theorem credit_at (g : GSem nD τ sig) (k : ℕ) (h : (∑ d : Dev nD, O₀ d g ()) = k) :
    tallyOn g (launchCredit (Pipeline.owing O₀) 0 g) = (tallyAt g () k : CellTallies nD τ sig Unit) := by
  unfold tallyAt; refine congrArg _ (Finsupp.ext fun u => ?_); cases u
  rw [Pipeline.launchCredit_owing, Finsupp.single_eq_same, h]

theorem credit_bar (c : Dev nD) : (∑ d : Dev nD, O₀ d (barCell c) ()) = 3 := by
  rw [owed_sum, Finset.sum_eq_zero fun x _ => if_neg fun h => ?_, zero_add, Fintype.sum_prod_type]
  · rw [Finset.sum_eq_single c (fun d _ hd => Finset.sum_eq_zero fun j _ => if_neg fun h => hd ?_) (fun h => absurd (Finset.mem_univ c) h)]
    · simp
    · exact (congrArg Prod.fst (kcell_injective (a₁ := (c, .inl ())) (a₂ := (d, .inl ())) h)).symm
  · have := congrArg Prod.snd (kcell_injective (a₁ := (c, .inl ())) (a₂ := (x.1, .inr (.inr x.2))) h)
    cases this

theorem credit_recv (c : Dev nD) (r : Fin 6) : (∑ d : Dev nD, O₀ d (recvCell c r) ()) = N := by
  rw [owed_sum, Finset.sum_eq_zero (s := (Finset.univ : Finset (Dev nD × Fin 3))) fun x _ => if_neg fun h => ?_, add_zero]
  · rw [Finset.sum_eq_single (c, r) (fun x _ hx => if_neg fun h => hx ?_) (fun h => absurd (Finset.mem_univ _) h), if_pos rfl]
    have e := kcell_injective (a₁ := (c, .inr (.inr r))) (a₂ := (x.1, .inr (.inr x.2))) h
    simp only [Prod.mk.injEq, Sum.inr.injEq] at e
    exact Prod.ext e.1.symm e.2.symm
  · have := congrArg Prod.snd (kcell_injective (a₁ := (c, .inr (.inr r))) (a₂ := (x.1, .inl ())) h)
    cases this

theorem recv_sem_injective : Function.Injective fun r : Fin 6 => (SemLoc.dma (recvS r) : SemLoc sig) := by decide

theorem creds_intro (c : Dev nD) : (Pipeline.launchCred O₀ c : sProp 𝕄) ⊢ creds c := by
  unfold Pipeline.launchCred creds
  rw [bigSep_univ_at _ (SemLoc.reg barS), credit_at _ _ (credit_bar c)]
  refine sep_mono_right ?_
  have e : (bigSep (Finset.univ.map ⟨_, recv_sem_injective⟩) fun sm : SemLoc sig =>
        (cred (tallyOn ((c.tc : Thread nD τ), sm) (launchCredit (Pipeline.owing O₀) 0 ((c.tc : Thread nD τ), sm))) : sProp 𝕄))
      = bigSep Finset.univ fun r : Fin 6 => cred (tallyAt (recvCell c r) () N) := by
    rw [bigSep_map]
    exact bigSep_congr fun r _ => congrArg cred (credit_at _ _ (credit_recv c r))
  rw [← e]
  refine bigSep_subset fun x hx => ?_
  · obtain ⟨r, -, rfl⟩ := Finset.mem_map.mp hx
    exact Finset.mem_erase.mpr ⟨(fun h => nomatch h), Finset.mem_univ _⟩

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G'
  iintro ⟨-, Hlev, Hcr, -, HG, Hi⟩
  ihave Hc := (creds_intro (F := F) c) $$ Hcr
  imodintro
  isplitl
  · isplitl [HG]; · iexact HG
    isplitl [Hi]; · iexact Hi
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Hr, Hi, HB, HS, HV⟩
  isplitl [HB]; · iexact HB
  isplitl [HS Hi HV]
  · isplitl [HS]; · iexact HS
    isplitl [Hi] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, every weakly fair execution of the four devices ends, with the arrays at
    `finalA` and every semaphore at zero. -/
theorem run_arrays : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result array is written back once, whole. -/
theorem finalA_out (c : Dev nD) : finalA m ρ c (3 : Fin 4) = outAt m ρ c := by
  refine (dats m ρ 0 c).arrAt_eq_of_after_last 3 t0_0 (by decide +kernel) _ fun j => ?_
  blk_simp
  rfl

/-- The run as the claims read it. -/
theorem run_main : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h.1 c 3).trans (finalA_out m ρ c),
    (h.1 c 0).trans ((dats m ρ 0 c).arrAt_in (0 : Fin 4) rfl _), (h.1 c 1).trans ((dats m ρ 0 c).arrAt_in (1 : Fin 4) rfl _),
    (h.1 c 2).trans ((dats m ρ 0 c).arrAt_in (2 : Fin 4) rfl _)⟩, h.2⟩) (run_arrays m ρ)

end Cert.Exchange

end
-- ==== Proof.Frames.lean ====
/-
# `Frames`: the frames of the three programs, and the named constant

The kernel's run is proved once, over any float values in which the scale has a name. At `Ideal` it is the ideal program's frame;
at `Bits`, with every name read as the printed word, it is the printed program's.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Exchange

open Idealize.ShloMosaic Idealize.ShloMosaic.TcCoe Idealize.SL.Sem

/-- A named constant of the words is the word that is printed for it. -/
@[reducible] def namedWord : Named Bits where
  named _ _ b := FloatOps.ofBits b

attribute [local instance] namedWord

/-- With the names read so, the two kernels have one body table. -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
theorem defs_eq : Cert.Kernel.defs (F := Bits) = Cert.KernelIdeal.defs (F := Bits) := by
  unfold Cert.Kernel.defs Cert.KernelIdeal.defs
  rw [defs₀_eq]; rfl

/-- The printed kernel ends with its arguments unchanged and every semaphore at zero. -/
theorem frame_kernel : Cert.quiescent_Kernel := fun m ρ _ => by
  rw [defs_eq]
  exact (θ_run (Cert.KernelIdeal.defs (F := Bits)) _ _).mono (fun _ h => ⟨fun c => (h.1 c).2, h.2⟩) (run_main (F := Bits) m ρ)

/-- So does the kernel over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The scale of the ideal kernel is the real `1/√128`, which the printed word rounds. -/
theorem named_scale : Cert.preserves_Kernel_KernelIdeal :=
  IdealRules.named_const.statement Cert.KernelIdeal.κ "inv_sqrt_d" .f32 0x3DB504F3#32 (((Real.sqrt 128)⁻¹ : ℝ) : EReal) rfl

end Cert.Exchange

end
-- ==== Proof.Softmax.lean ====
/-
# `Softmax`: the online softmax on extended reals

Scores are reals, cut in blocks; values are any extended reals. A partial state has taken in some of the blocks: a reference
score (any real at all), the sum of the exponentials of the scores less it, and the values weighted by those exponentials.
A block is taken in by moving to another reference score. At the end the quotient is the softmax average, which can be
computed from any reference score.
-/
module

public import Idealize.ShloMosaic.PureOps.Ideal

@[expose] public section

noncomputable section

namespace Cert.Softmax

open Idealize.ShloMosaic
open scoped BigOperators

/-- A sum of reals is the sum of the extended reals they are. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A real that is not negative goes into a sum of extended reals. -/
theorem mul_sum {ι : Type*} (S : Finset ι) {a : ℝ} (ha : 0 ≤ a) (f : ι → EReal) : (a : EReal) * ∑ i ∈ S, f i = ∑ i ∈ S, (a : EReal) * f i := by
  classical
  induction S using Finset.induction_on with
  | empty => simp
  | insert i S hi ih =>
    rw [Finset.sum_insert hi, Finset.sum_insert hi, EReal.left_distrib_of_nonneg_of_ne_top (EReal.coe_nonneg.mpr ha) (EReal.coe_ne_top a), ih]

/-- The maximum of reals from `⊥` on is a real or, of none, `⊥`. -/
theorem fold_max {ι : Type*} (S : Finset ι) (f : ι → ℝ) :
    S.fold max (⊥ : EReal) (fun i => (f i : EReal)) = ⊥ ∨ ∃ r : ℝ, S.fold max (⊥ : EReal) (fun i => (f i : EReal)) = r := by
  classical
  induction S using Finset.induction_on with
  | empty => left; simp
  | insert i S hi ih =>
    right; rw [Finset.fold_insert hi]
    rcases ih with h | ⟨r, h⟩
    · exact ⟨f i, by rw [h, max_bot_right]⟩
    · exact ⟨max (f i) r, by rw [h]; exact (EReal.coe_strictMono.monotone.map_max).symm⟩

/-- With a real beside them it is a real; -/
theorem max_fold {ι : Type*} (S : Finset ι) (f : ι → ℝ) (a : ℝ) :
    ∃ r : ℝ, max (a : EReal) (S.fold max (⊥ : EReal) fun i => (f i : EReal)) = r := by
  rcases fold_max S f with h | ⟨r, h⟩
  · exact ⟨a, by rw [h, max_bot_right]⟩
  · exact ⟨max a r, by rw [h]; exact (EReal.coe_strictMono.monotone.map_max).symm⟩

/-- and of at least one. -/
theorem fold_max_of_mem {ι : Type*} (S : Finset ι) (f : ι → ℝ) {i : ι} (hi : i ∈ S) :
    ∃ r : ℝ, S.fold max (⊥ : EReal) (fun i => (f i : EReal)) = r := by
  rcases fold_max S f with h | h
  · exact absurd ((Finset.le_fold_max _).mpr (Or.inr ⟨i, hi, le_refl _⟩) |>.trans_eq h) (by simp)
  · exact h

variable {κ ι : Type*} [Fintype ι] (s : κ → ι → ℝ) (v : κ → ι → EReal)

/-- The state after the blocks `S`: the reference score, the sum of the weights, the weighted values. -/
def Taken (S : Finset κ) (top sum out : EReal) : Prop :=
  ∃ μ : ℝ, top = μ ∧ sum = ((∑ p ∈ S, ∑ j, Real.exp (s p j - μ) : ℝ) : EReal)
    ∧ out = ∑ p ∈ S, ∑ j, ((Real.exp (s p j - μ) : ℝ) : EReal) * v p j

theorem exp_sub (a b : ℝ) : Ideal.exp ((a : EReal) - b) = ((Real.exp (a - b) : ℝ) : EReal) := by rw [← EReal.coe_sub, Ideal.exp_coe]

variable {s v}

/-- Before any. -/
theorem Taken.zero (μ : ℝ) : Taken s v ∅ μ 0 0 := ⟨μ, rfl, by simp, by simp⟩

/-- One more block, at any reference score. -/
theorem Taken.step [DecidableEq κ] {S : Finset κ} {top sum out : EReal} (h : Taken s v S top sum out) {p : κ} (hp : p ∉ S) (ν : ℝ) :
    Taken s v (insert p S) ν (sum * Ideal.exp (top - ν) + ∑ j, Ideal.exp ((s p j : EReal) - ν))
      (out * Ideal.exp (top - ν) + ∑ j, Ideal.exp ((s p j : EReal) - ν) * v p j) := by
  obtain ⟨μ, rfl, rfl, rfl⟩ := h
  have e : ∀ q j, Real.exp (μ - ν) * Real.exp (s q j - μ) = Real.exp (s q j - ν) := fun q j => by rw [← Real.exp_add]; congr 1; ring
  refine ⟨ν, rfl, ?_, ?_⟩
  · simp only [exp_sub]
    rw [Finset.sum_insert hp, EReal.coe_add, ← EReal.coe_mul, ← coe_sum, mul_comm, Finset.mul_sum, add_comm]
    simp only [Finset.mul_sum, e]
  · simp only [exp_sub]
    rw [Finset.sum_insert hp, mul_comm, mul_sum _ (Real.exp_nonneg _), add_comm]
    refine congrArg _ (Finset.sum_congr rfl fun q _ => ?_)
    rw [mul_sum _ (Real.exp_nonneg _)]
    exact Finset.sum_congr rfl fun j _ => by rw [← mul_assoc, ← EReal.coe_mul, e]

/-- After all of them the quotient is the softmax average of the values, computed at any reference score `M`. -/
theorem Taken.average [Fintype κ] [Nonempty κ] [Nonempty ι] {top sum out : EReal} (h : Taken s v Finset.univ top sum out) (M : ℝ) :
    Ideal.div out sum = ∑ p, ∑ j, Ideal.div (Ideal.exp ((s p j : EReal) - M)) (∑ p, ∑ j, Ideal.exp ((s p j : EReal) - M)) * v p j := by
  obtain ⟨μ, rfl, rfl, rfl⟩ := h
  have pos : ∀ a : ℝ, 0 < ∑ p, ∑ j, Real.exp (s p j - a) := fun a =>
    Finset.sum_pos (fun p _ => Finset.sum_pos (fun j _ => Real.exp_pos _) Finset.univ_nonempty) Finset.univ_nonempty
  simp only [exp_sub, ← coe_sum]
  rw [Ideal.div_coe (pos μ).ne', mul_comm, mul_sum _ (one_div_nonneg.mpr (pos μ).le)]
  refine Finset.sum_congr rfl fun p _ => ?_
  rw [mul_sum _ (one_div_nonneg.mpr (pos μ).le)]
  refine Finset.sum_congr rfl fun j _ => ?_
  rw [Ideal.div_coe (pos M).ne', ← mul_assoc, ← EReal.coe_mul, ← EReal.coe_mul]
  refine congrArg (fun r : ℝ => (r : EReal) * v p j) ?_
  have e : ∀ q i, Real.exp (s q i - M) = Real.exp (μ - M) * Real.exp (s q i - μ) := fun q i => by rw [← Real.exp_add]; congr 1; ring
  have eS : ∑ q, ∑ i, Real.exp (s q i - M) = Real.exp (μ - M) * ∑ q, ∑ i, Real.exp (s q i - μ) := by
    simp only [Finset.mul_sum, e]
  rw [eS, e]
  have := (pos μ).ne'
  have := (Real.exp_pos (μ - M)).ne'
  field_simp

end Cert.Softmax

end
-- ==== Proof.Constants.lean ====
/-
# `Constants`: the float constants as extended reals
-/
module

public import Idealize.ShloMosaic.PureOps.Ideal

@[expose] public section

noncomputable section

namespace Cert.Constants

open Idealize.ShloMosaic

/-- The width of a row, under the root. -/
theorem width : Ideal.ofBits .f32 0x43000000#32 = ((128 : ℝ) : EReal) := by simp [Ideal.ofBits, Ideal.ieee, -EReal.coe_mul]; norm_num

/-- Where a maximum starts. -/
theorem negInf : Ideal.ofBits .f32 0xFF800000#32 = ⊥ := by simp [Ideal.ofBits, Ideal.ieee]

/-- What a finite word stays below. -/
theorem posInf : Ideal.ofBits .bf16 0x7F80#16 = ⊤ := by simp [Ideal.ofBits, Ideal.ieee]

/-- The running maximum starts at a real. -/
theorem lowest : ∃ r : ℝ, Ideal.ofBits .f32 0xF149F2CA#32 = r := by simp [Ideal.ofBits, Ideal.ieee, -EReal.coe_mul, -EReal.coe_neg]

end Cert.Constants

end
-- ==== Proof.KernelValue.lean ====
/-
# `KernelValue`: what one device leaves in the output block, element by element

A half window taken in is a step of the online softmax (`Softmax`), row by row and column by column.
-/
module

public import proofs.«01_k».proof.Proof.Body
public import proofs.«01_k».proof.Proof.Softmax
public import proofs.«01_k».proof.Proof.Constants
public import Idealize.ShloMosaic.Lib.Pointwise

@[expose] public section

noncomputable section

namespace Cert.Exchange

open Cert.KernelIdeal Cert.KernelIdeal.Gen
open Idealize.ShloMosaic

/-- The scale of a score. -/
abbrev scale : ℝ := (Real.sqrt 128)⁻¹

theorem scale_named : Named.named (F := Ideal) κ "inv_sqrt_d" (φ := .f32) 0x3DB504F3#32 = (scale : EReal) :=
  IdealRules.named_const.ideal_named_scalar _ _ _ _ rfl

section
variable (q : FVec Ideal S1024x128 .bf16) (t s : FVec Ideal S1024x1 .f32) (a : FVec Ideal S1024x128 .f32) (k : FVec Ideal S512x128 .bf16)
  (kb vb : FVec Ideal S1x1x512x128 .bf16) (i : Fin 1024) (j : Fin 512) (d : Fin 128)

theorem keys_apply : k0_pay46 kb (ix2 j d) = kb (ix4 0 0 j d) := by
  pointwise [k0_pay46]
theorem score_apply : k0_pay47 q k (ix2 i j) = (∑ e : Fin 128, q (ix2 i e) * k (ix2 j e)) * (scale : EReal) := by
  pointwise [k0_pay47]
  rw [scale_named]
theorem top_apply : k0_pay48 q t k (ix2 i 0) = max (t (ix2 i 0)) (Finset.univ.fold max ⊥ fun j => k0_pay47 q k (ix2 i j)) := by
  pointwise [k0_pay48]
  rw [Constants.negInf]
theorem weight_apply : k0_pay49 q t k (ix2 i j) = Ideal.exp (k0_pay47 q k (ix2 i j) - k0_pay48 q t k (ix2 i 0)) := by
  pointwise [k0_pay49]
theorem rescale_apply : k0_pay50 q t k (ix2 i 0) = Ideal.exp (t (ix2 i 0) - k0_pay48 q t k (ix2 i 0)) := by
  pointwise [k0_pay50]
theorem sum_apply : k0_pay51 q t s k (ix2 i 0) = s (ix2 i 0) * k0_pay50 q t k (ix2 i 0) + ∑ j, k0_pay49 q t k (ix2 i j) := by
  pointwise [k0_pay51]
theorem out_apply : k0_pay52 q t a k vb (ix2 i d) = a (ix2 i d) * k0_pay50 q t k (ix2 i 0) + ∑ j, k0_pay49 q t k (ix2 i j) * vb (ix4 0 0 j d) := by
  pointwise [k0_pay52]
theorem quotient_apply : k0_pay1 s a (ix2 i d) = Ideal.div (a (ix2 i d)) (s (ix2 i 0)) := by
  pointwise [k0_pay1]
theorem queries_apply (q : FVec Ideal S1024x128 .bf16) : k0_pay6 q = q := by
  funext j; pointwise [k0_pay6]
end

/-! ## The eight half windows -/

section Fold
variable {q : Vec Ideal S1024x128 .bf16} {s : Fin 4 × Fin 2 → Fin 512 → ℝ} {v : Fin 4 × Fin 2 → Fin 512 → EReal} {i : Fin 1024} {d : Fin 128}

/-- The state of row `i` and column `d` after the half windows `S`. -/
abbrev RowTaken (s : Fin 4 × Fin 2 → Fin 512 → ℝ) (v : Fin 4 × Fin 2 → Fin 512 → EReal) (i : Fin 1024) (d : Fin 128)
    (S : Finset (Fin 4 × Fin 2)) (st : Acc Ideal) : Prop :=
  Softmax.Taken s v S (st.top (ix2 i 0)) (st.sum (ix2 i 0)) (st.out (ix2 i d))

theorem absorb_taken {st : Acc Ideal} {S : Finset (Fin 4 × Fin 2)} (h : RowTaken s v i d S st) {p : Fin 4 × Fin 2} (hp : p ∉ S)
    {kb vb : Vec Ideal S1x1x512x128 .bf16} (hs : ∀ j, k0_pay47 q (k0_pay46 kb) (ix2 i j) = (s p j : EReal)) (hv : ∀ j, vb (ix4 0 0 j d) = v p j) :
    RowTaken s v i d (insert p S) (absorb q st kb vb) := by
  obtain ⟨μ, hμ, -⟩ := id h
  obtain ⟨ν, hν⟩ := Softmax.max_fold Finset.univ (s p) μ
  have et : k0_pay48 q st.top (k0_pay46 kb) (ix2 i 0) = (ν : EReal) := by
    rw [top_apply, hμ, ← hν]; simp only [hs]
  have := h.step hp ν
  unfold RowTaken absorb
  dsimp only
  rw [sum_apply, out_apply, rescale_apply]
  simp only [weight_apply, et, hs, hv]
  exact this

theorem fold_taken {kb vb : Fin 4 × Fin 2 → Vec Ideal S1x1x512x128 .bf16} (hs : ∀ p j, k0_pay47 q (k0_pay46 (kb p)) (ix2 i j) = (s p j : EReal))
    (hv : ∀ p j, vb p (ix4 0 0 j d) = v p j) : ∀ (l : List (Fin 4 × Fin 2)) {st : Acc Ideal} {S : Finset (Fin 4 × Fin 2)}, l.Nodup → (∀ p ∈ l, p ∉ S) →
      RowTaken s v i d S st → RowTaken s v i d (S ∪ l.toFinset) (l.foldl (fun st p => absorb q st (kb p) (vb p)) st)
  | [], _, _, _, _, h => by simpa using h
  | p :: l, st, S, hl, hS, h => by
    rw [List.nodup_cons] at hl
    have := fold_taken hs hv l (S := insert p S) hl.2
      (fun r hr => by
        rw [Finset.mem_insert, not_or]
        exact ⟨fun e => hl.1 (e ▸ hr), hS r (List.mem_cons_of_mem _ hr)⟩)
      (absorb_taken h (hS p List.mem_cons_self) (hs p) (hv p))
    rwa [Finset.insert_union, ← Finset.union_insert, ← List.toFinset_cons] at this

theorem zero_taken : RowTaken s v i d ∅ accZero := by
  obtain ⟨r, hr⟩ := Constants.lowest
  have e : (accZero (F := Ideal)).top (ix2 i 0) = (r : EReal) := by
    rw [← hr]; unfold accZero; pointwise [k0_pay7]
  have z : Scalar.ofBits (F := Ideal) .f32 0x00000000#32 = 0 := by simp [Scalar.ofBits, Ideal.ofBits_def, Ideal.ofBits, Ideal.ieee]
  have := Softmax.Taken.zero (s := s) (v := v) r
  unfold RowTaken
  rw [e]
  show Softmax.Taken s v ∅ r (Scalar.ofBits (F := Ideal) .f32 0x00000000#32) (Scalar.ofBits (F := Ideal) .f32 0x00000000#32)
  rw [z]; exact this
end Fold

/-! ## The blocks they are read from -/

variable (m : (ℓ : Loc nD τ sig) → Buf (Elt Ideal) ℓ) (ρ : Dev nD → PrngReg)

theorem qstg_eq (c : Dev nD) : qstg m ρ c = m ((c.tc : Thread nD τ).loc main_arg0) :=
  funext fun i => congrArg (m ((c.tc : Thread nD τ).loc main_arg0)) (funext fun a => by fin_cases a <;> exact Fin.ext (by simp [win0_0, Pipeline.Window.whole, Pipeline.Window.index]))
theorem kstg_eq (c : Dev nD) : kstg m ρ c = m ((c.tc : Thread nD τ).loc main_arg1) :=
  funext fun i => congrArg (m ((c.tc : Thread nD τ).loc main_arg1)) (funext fun a => by fin_cases a <;> exact Fin.ext (by simp [win0_1, Pipeline.Window.whole, Pipeline.Window.index]))
theorem vstg_eq (c : Dev nD) : vstg m ρ c = m ((c.tc : Thread nD τ).loc main_arg2) :=
  funext fun i => congrArg (m ((c.tc : Thread nD τ).loc main_arg2)) (funext fun a => by fin_cases a <;> exact Fin.ext (by simp [win0_2, Pipeline.Window.whole, Pipeline.Window.index]))

/-- Row `j` of half `h` of 1024 rows. -/
def halfRow (h : Fin 2) (j : Fin 512) : Fin 1024 := ⟨h.val * 512 + j.val, by omega⟩

theorem chunk_keys (c : Dev nD) (s : Fin 4) (h : Fin 2) (j : Fin 512) (d : Fin 128) :
    chunk m ρ c s h 0 (ix4 0 0 j d) = kstg m ρ (ahead c s.val) (ix2 (halfRow h j) d) := by
  have e : chunk m ρ c s h 0 (ix4 0 0 j d) = commAt m ρ c (ix4 s h ⟨j.val, by omega⟩ d) := by
    unfold chunk
    refine congrArg (commAt m ρ c) ?_
    funext a; fin_cases a <;> exact Fin.ext (by simp [Rect.unit])
  rw [e]
  unfold commAt gathered packed
  exact dif_pos j.isLt
theorem chunk_values (c : Dev nD) (s : Fin 4) (h : Fin 2) (j : Fin 512) (d : Fin 128) :
    chunk m ρ c s h 1 (ix4 0 0 j d) = vstg m ρ (ahead c s.val) (ix2 (halfRow h j) d) := by
  have e : chunk m ρ c s h 1 (ix4 0 0 j d) = commAt m ρ c (ix4 s h ⟨512 + j.val, by omega⟩ d) := by
    unfold chunk
    refine congrArg (commAt m ρ c) ?_
    funext a; fin_cases a <;> exact Fin.ext (by simp [Rect.unit])
  rw [e]
  unfold commAt gathered packed
  refine (dif_neg (by show ¬ 512 + j.val < 512; omega)).trans (congrArg (fun r => vstg m ρ (ahead c s.val) (ix2 r d)) (Fin.ext ?_))
  show h.val * 512 + (512 + j.val - 512) = h.val * 512 + j.val
  omega

/-- Row `i` and column `d` of the output block, the queries' and keys' entries being reals `Q` and `K`: the softmax average of
    the values over every half window, at any reference score. -/
theorem outAt_apply (c : Dev nD) (Q : Fin 128 → ℝ) (K : Fin 4 × Fin 2 → Fin 512 → Fin 128 → ℝ) (i : Fin 1024) (d : Fin 128)
    (hQ : ∀ e, m ((c.tc : Thread nD τ).loc main_arg0) (ix2 i e) = (Q e : EReal))
    (hK : ∀ p j e, m (((ahead c p.1.val).tc : Thread nD τ).loc main_arg1) (ix2 (halfRow p.2 j) e) = (K p j e : EReal))
    (s : Fin 4 × Fin 2 → Fin 512 → ℝ) (hs : ∀ p j, s p j = (∑ e, Q e * K p j e) * scale) (M : ℝ) :
    outAt m ρ c (ix2 i d) = ∑ p : Fin 4 × Fin 2, ∑ j : Fin 512,
      Ideal.div (Ideal.exp ((s p j : EReal) - M)) (∑ p, ∑ j, Ideal.exp ((s p j : EReal) - M))
        * m (((ahead c p.1.val).tc : Thread nD τ).loc main_arg2) (ix2 (halfRow p.2 j) d) := by
  have hS : ∀ p j, k0_pay47 (k0_pay6 (qstg m ρ c)) (k0_pay46 (chunk m ρ c p.1 p.2 0)) (ix2 i j) = (s p j : EReal) := fun p j => by
    rw [score_apply, queries_apply, qstg_eq, hs, EReal.coe_mul, Softmax.coe_sum]
    refine congrArg (· * _) (Finset.sum_congr rfl fun e _ => ?_)
    rw [keys_apply, chunk_keys, kstg_eq, hQ, hK, EReal.coe_mul]
  have hV : ∀ (p : Fin 4 × Fin 2) (j : Fin 512), chunk m ρ c p.1 p.2 1 (ix4 0 0 j d) = m (((ahead c p.1.val).tc : Thread nD τ).loc main_arg2) (ix2 (halfRow p.2 j) d) :=
    fun p j => by rw [chunk_values, vstg_eq]
  have h := fold_taken hS hV order (by decide) (fun _ _ => Finset.notMem_empty _) zero_taken
  rw [show (∅ ∪ order.toFinset : Finset (Fin 4 × Fin 2)) = Finset.univ by decide] at h
  unfold outAt
  rw [quotient_apply]
  exact h.average M

end Cert.Exchange

end
-- ==== Proof.ReferenceValue.lean ====
/-
# `ReferenceValue`: what the reference computes, element by element
-/
module

public import proofs.«01_k».proof.Proof.Gen.ReferenceIdeal.Run
public import proofs.«01_k».proof.Proof.Softmax
public import proofs.«01_k».proof.Proof.Constants
public import Idealize.ShloMosaic.Lib.Pointwise

@[expose] public section

noncomputable section

namespace Cert.Whole

open Cert.ReferenceIdeal Cert.ReferenceIdeal.Gen
open Idealize.ShloMosaic Idealize.ShloMosaic.TcCoe Idealize.SL.Sem

/-- The scaled products of all queries with all keys. -/
def scores (q k : FVec Ideal S4096x128 .bf16) : FVec Ideal S4096x4096 .f32 :=
  Host.divf (Host.dotGeneral dot_S4096x128_S128x4096_S4096x4096_1_0_0_1_n_n none (extf .f32 q bitsLt_bf16_f32)
      (transpose S128x4096 [1, 0] (extf .f32 k bitsLt_bf16_f32) transposes_S4096x128_S128x4096_1_0))
    (broadcastInDim S4096x4096 ![] bcast_S_S4096x4096 (Host.sqrt (constant S_ .f32 0x43000000#32)))

/-- The largest of every row. -/
def tops (s : FVec Ideal S4096x4096 .f32) : FVec Ideal S4096 .f32 :=
  Host.reduce FloatOps.maximumf s (constant S_ .f32 0xFF800000#32) reducesTo_S4096x4096_S4096_d1 h_S_

/-- A column of row values beside every column. -/
def across (t : FVec Ideal S4096 .f32) : FVec Ideal S4096x4096 .f32 :=
  broadcastInDim S4096x4096 ![0, 1] bcast_S4096x1_S4096x4096_0_1 (broadcastInDim S4096x1 ![0] bcast_S4096_S4096x1_0 t)

/-- The softmax of every row. -/
def weights (s : FVec Ideal S4096x4096 .f32) (t : FVec Ideal S4096 .f32) : FVec Ideal S4096x4096 .f32 :=
  Host.divf (Host.exp (subf s (across t)))
    (across (Host.reduceAdd (Host.exp (subf s (across t))) (constant S_ .f32 0x00000000#32) reducesTo_S4096x4096_S4096_d1 h_S_))

/-- The whole result. -/
def attended (q k v : FVec Ideal S4096x128 .bf16) : FVec Ideal S4096x128 .f32 :=
  Host.dotGeneral dot_S4096x4096_S4096x128_S4096x128_1_0_0_1_n_n none (weights (scores q k) (tops (scores q k))) (extf .f32 v bitsLt_bf16_f32)

/-- The reference ends with it, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
          = attended (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

variable (q k v : FVec Ideal S4096x128 .bf16) (s : FVec Ideal S4096x4096 .f32) (t : FVec Ideal S4096 .f32) (r j : Fin 4096) (d : Fin 128)

/-- Division by `√128` is multiplication with its inverse. -/
theorem scores_apply : scores q k (ix2 r j) = (∑ e : Fin 128, q (ix2 r e) * k (ix2 j e)) * (((Real.sqrt 128)⁻¹ : ℝ) : EReal) := by
  have h : Ideal.sqrt (Ideal.ofBits .f32 0x43000000#32) = ((Real.sqrt 128 : ℝ) : EReal) := by
    rw [Constants.width, Ideal.sqrt_coe, if_neg (by norm_num)]
  pointwise [scores]
  rw [h, Ideal.div_coe (Real.sqrt_ne_zero'.mpr (by norm_num)), one_div]
theorem tops_apply : tops s (ix1 r) = Finset.univ.fold max ⊥ fun j => s (ix2 r j) := by
  pointwise [tops]
  rw [Constants.negInf]
theorem weights_apply : weights s t (ix2 r j)
    = Ideal.div (Ideal.exp (s (ix2 r j) - t (ix1 r))) (∑ j, Ideal.exp (s (ix2 r j) - t (ix1 r))) := by
  pointwise [weights, across]
theorem attended_apply : attended q k v (ix2 r d)
    = ∑ j, weights (scores q k) (tops (scores q k)) (ix2 r j) * v (ix2 j d) := by
  pointwise [attended]

end Cert.Whole

end
-- ==== Proof.Finite.lean ====
/-
# `Finite`: the precondition read back

Of two arrays every element of which is below infinity in absolute value, every element is a real.
-/
module

public import proofs.«01_k».proof.Pre_finite_q_k_KernelIdeal
public import proofs.«01_k».proof.Pre_finite_q_k_ReferenceIdeal
public import proofs.«01_k».proof.Proof.Constants
public import Idealize.ShloMosaic.Lib.ReduceAll
public import Idealize.ShloMosaic.Lib.Pointwise

@[expose] public section

noncomputable section

namespace Cert.Finite

open Idealize.ShloMosaic

/-- The shapes the predicate names, on a device's blocks -/
instance blocks : Cert.Pre_finite_q_k_KernelIdeal.Facts where
  bcast_S_S1024x128 := by decide
  reducesTo_S1024x128_S_d0_1 := by decide
  h_S_ := by decide
/-- and on the whole arrays. -/
instance whole : Cert.Pre_finite_q_k_ReferenceIdeal.Facts where
  bcast_S_S4096x128 := by decide
  reducesTo_S4096x128_S_d0_1 := by decide
  h_S_ := by decide

/-- Below infinity in absolute value is real. -/
theorem real_of_abs {x : EReal} (h : Ideal.cmp .olt (max x (-x)) ⊤ = 1#1) : ∃ r : ℝ, x = r := by
  have h' : max x (-x) < ⊤ := by
    by_contra hn
    simp [Ideal.cmp, hn] at h
  induction x with
  | bot => simp at h'
  | top => simp at h'
  | coe r => exact ⟨r, rfl⟩

open Cert.Pre_finite_q_k_KernelIdeal Cert.Pre_finite_q_k_KernelIdeal.Facts in
theorem reals {q k v : FVec Ideal S1024x128 .bf16} (h : fn (F := Ideal) q k v = fun _ => 1#1) (j : S1024x128.Idx) :
    (∃ r : ℝ, q j = r) ∧ ∃ r : ℝ, k j = r := by
  have at_ : ∀ x : FVec Ideal S1024x128 .bf16,
      cmpf .olt (Host.absf x) (broadcastInDim S1024x128 ![] bcast_S_S1024x128 (constant S_ .bf16 0x7F80#16)) j
        = Ideal.cmp .olt (max (x j) (-(x j))) ⊤ := fun x => by
    rw [← Constants.posInf]; rfl
  obtain ⟨hq, hk⟩ := IntOp.andi_eq_one.1 (congrFun h (Shape.Idx.first h_S_))
  haveI : Subsingleton S_.Idx := ⟨fun a b => funext fun i => i.elim0⟩
  exact ⟨real_of_abs ((at_ q).symm.trans (Host.reduce_andi_all _ _ _ _ _ hq j)), real_of_abs ((at_ k).symm.trans (Host.reduce_andi_all _ _ _ _ _ hk j))⟩

end Cert.Finite

end
-- ==== Proof.Value.lean ====
/-
# `Value`: the two programs compute the same

Device `c` has rows `1024·c …` of the queries. Its eight half windows are all the 4096 keys, each once, so both programs leave
the softmax average of all values, the kernel at its last running maximum and the reference at the maximum of the row.
-/
module

public import proofs.«01_k».proof.Defs
public import proofs.«01_k».proof.Proof.Launch
public import proofs.«01_k».proof.Proof.KernelValue
public import proofs.«01_k».proof.Proof.ReferenceValue
public import proofs.«01_k».proof.Proof.Finite

@[expose] public section

noncomputable section

namespace Cert.Exchange

open Idealize.ShloMosaic Idealize.ShloMosaic.TcCoe Idealize.SL.Sem
open Cert.KernelIdeal (nD)

/-- Row `i` of device `c` among all rows. -/
def row (c : Dev nD) (i : Fin 1024) : Fin 4096 := ⟨c.val * 1024 + i.val, by have : c.val < 4 := c.isLt; omega⟩

/-- Every row is some device's. -/
theorem row_surj (r : Fin 4096) : ∃ c i, row c i = r :=
  ⟨⟨r.val / 1024, by have := r.isLt; show _ < 4; omega⟩, ⟨r.val % 1024, Nat.mod_lt _ (by decide)⟩, Fin.ext (by show r.val / 1024 * 1024 + r.val % 1024 = r.val; omega)⟩

theorem block_row {α : Type} (c : Dev nD) (w : (⟨2, ![4096, 128]⟩ : Shape).Idx → α) {h : Layout.Tiles ⟨2, ![1024, 128]⟩ ⟨2, ![4096, 128]⟩ 0 4} (i : Fin 1024) (e : Fin 128) :
    Layout.block ⟨2, ![1024, 128]⟩ ⟨2, ![4096, 128]⟩ 0 4 c w h (ix2 i e) = w (ix2 (row c i) e) :=
  congrArg w (funext fun a => by fin_cases a <;> exact Fin.ext rfl)

/-- The key at place `j` of a half window of device `c`. -/
def key (c : Dev nD) (x : (Fin 4 × Fin 2) × Fin 512) : Fin 4096 := row (ahead c x.1.1.val) (halfRow x.1.2 x.2)

theorem key_bijective (c : Dev nD) : Function.Bijective (key c) := by
  refine (Fintype.bijective_iff_injective_and_card _).mpr ⟨fun x y h => ?_, by simp⟩
  obtain ⟨⟨s, g⟩, j⟩ := x
  obtain ⟨⟨s', g'⟩, j'⟩ := y
  have h := congrArg Fin.val h
  have hc : c.val < 4 := c.isLt
  simp only [key, row, halfRow, ahead_val] at h
  have : s = s' := Fin.ext (by omega)
  have : g = g' := Fin.ext (by omega)
  have : j = j' := Fin.ext (by omega)
  subst_vars; rfl

theorem sum_keys (c : Dev nD) (f : Fin 4096 → EReal) : ∑ p : Fin 4 × Fin 2, ∑ j : Fin 512, f (key c (p, j)) = ∑ r, f r :=
  (Fintype.sum_prod_type' fun p j => f (key c (p, j))).symm.trans ((key_bijective c).sum_comp f)

section
open Cert.KernelIdeal (S1024x128)
open Cert.ReferenceIdeal (S4096x128)

/-- The output block of device `c` is its block of the reference's result. -/
theorem outAt_eq (m : (ℓ : Loc nD Cert.KernelIdeal.τ Cert.KernelIdeal.sig) → Buf (Elt Ideal) ℓ) (ρ : Dev nD → PrngReg)
    (hpre : Pre_KernelIdeal_finite_q_k_KernelIdeal m) (q k v : FVec Ideal S4096x128 .bf16)
    (hin : ∀ c : Dev nD, m ((c.tc : Thread nD Cert.KernelIdeal.τ).loc Cert.KernelIdeal.main_arg0) = Layout.block S1024x128 S4096x128 0 4 c q
      ∧ m ((c.tc : Thread nD Cert.KernelIdeal.τ).loc Cert.KernelIdeal.main_arg1) = Layout.block S1024x128 S4096x128 0 4 c k
      ∧ m ((c.tc : Thread nD Cert.KernelIdeal.τ).loc Cert.KernelIdeal.main_arg2) = Layout.block S1024x128 S4096x128 0 4 c v)
    (c : Dev nD) : outAt m ρ c = Layout.block S1024x128 S4096x128 0 4 c (Cert.Whole.attended q k v) := by
  have real : ∀ r e, (∃ x : ℝ, q (ix2 r e) = x) ∧ ∃ x : ℝ, k (ix2 r e) = x := fun r e => by
    obtain ⟨c, i, rfl⟩ := row_surj r
    have := Finite.reals (hpre c) (ix2 i e)
    rw [(hin c).1, (hin c).2.1, block_row, block_row] at this
    exact this
  choose hQ hK using real
  choose Q hQ using hQ
  choose K hK using hK
  refine funext fun (x : S1024x128.Idx) => ?_
  obtain ⟨i, d, rfl⟩ : ∃ i d, x = ix2 i d := ⟨_, _, eq_ix2 x⟩
  rw [block_row]
  have score : ∀ j, Cert.Whole.scores q k (ix2 (row c i) j) = (((∑ e, Q (row c i) e * K j e) * scale : ℝ) : EReal) := fun j => by
    rw [Cert.Whole.scores_apply, EReal.coe_mul, Softmax.coe_sum]
    exact congrArg (· * _) (Finset.sum_congr rfl fun e _ => by rw [hQ, hK, EReal.coe_mul])
  obtain ⟨M, hM⟩ := Softmax.fold_max_of_mem Finset.univ (fun j => (∑ e, Q (row c i) e * K j e) * scale) (Finset.mem_univ (0 : Fin 4096))
  have top : Cert.Whole.tops (Cert.Whole.scores q k) (ix1 (row c i)) = (M : EReal) := by
    rw [Cert.Whole.tops_apply, ← hM]; simp only [score]
  rw [Cert.Whole.attended_apply]
  simp only [Cert.Whole.weights_apply, score, top]
  rw [outAt_apply m ρ c (Q (row c i)) (fun p j => K (key c (p, j))) i d
    (fun e => by rw [(hin c).1, block_row, hQ])
    (fun p j e => by rw [(hin _).2.1, block_row, hK]; rfl)
    (fun p j => (∑ e, Q (row c i) e * K (key c (p, j)) e) * scale) (fun _ _ => rfl) M]
  rw [sum_keys c fun j => Ideal.exp ((((∑ e, Q (row c i) e * K j e) * scale : ℝ) : EReal) - M)]
  refine Eq.trans ?_ (sum_keys c _)
  simp only [(hin _).2.2, block_row]
  rfl
end

/-- From finite queries and keys, cut in blocks of rows, the kernel ends with the blocks of the reference's result. -/
theorem same_result : Cert.algebraic_KernelIdeal_ReferenceIdeal_pre_finite_q_k_KernelIdeal := fun m ρ m' ρ' hpre hin =>
  ⟨_, (θ_run Cert.KernelIdeal.defs _ _).mono (fun _ h c => ⟨(h.1 c).1.trans (outAt_eq m ρ hpre _ _ _ hin c), (h.1 c).2⟩) (run_main (F := Ideal) m ρ),
    (θ_run Cert.ReferenceIdeal.defs _ _).mono (fun _ h => h 0) (Cert.Whole.run m' ρ')⟩

end Cert.Exchange

end
-- ==== Proof.lean ====
/-
# The claims, put together
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal

@[expose] public section

noncomputable section

namespace Cert.Proof

open Cert.Exchange

theorem claim : Cert.Claim :=
  ⟨Cert.Kernel.Gen.facts, Cert.KernelIdeal.Gen.facts, Cert.ReferenceIdeal.Gen.facts, Cert.Finite.blocks, Cert.Finite.whole,
    frame_kernel, frame_ideal, fun m ρ _ => frame_ideal m ρ trivial, frame_reference, fun m ρ _ => frame_reference m ρ trivial,
    named_scale, same_result⟩

end Cert.Proof

end
